-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_nearest [hPre_distinct_nearest : Cert.Pre_distinct_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_nearest [hPre_distinct_nearest : Cert.Pre_distinct_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_distinct_nearest [hKernelIdeal : Cert.KernelIdeal.Facts] [hPre_distinct_nearest : Cert.Pre_distinct_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_distinct_nearest [hReferenceIdeal : Cert.ReferenceIdeal.Facts] [hPre_distinct_nearest : Cert.Pre_distinct_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "far" .f32 0x7149F2CA#32 ⊤

def algebraic_KernelIdeal_ReferenceIdeal_pre_distinct_nearest [hKernelIdeal : Cert.KernelIdeal.Facts] [hReferenceIdeal : Cert.ReferenceIdeal.Facts] [hPre_distinct_nearest : Cert.Pre_distinct_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_distinct_nearest : Cert.Pre_distinct_nearest.Facts),
    quiescent_Kernel (hKernel := hKernel)
    ∧ quiescent_KernelIdeal (hKernelIdeal := hKernelIdeal)
    ∧ quiescent_KernelIdeal_pre_distinct_nearest (hKernelIdeal := hKernelIdeal) (hPre_distinct_nearest := hPre_distinct_nearest)
    ∧ quiescent_ReferenceIdeal (hReferenceIdeal := hReferenceIdeal)
    ∧ quiescent_ReferenceIdeal_pre_distinct_nearest (hReferenceIdeal := hReferenceIdeal) (hPre_distinct_nearest := hPre_distinct_nearest)
    ∧ preserves_Kernel_KernelIdeal
    ∧ algebraic_KernelIdeal_ReferenceIdeal_pre_distinct_nearest (hKernelIdeal := hKernelIdeal) (hReferenceIdeal := hReferenceIdeal) (hPre_distinct_nearest := hPre_distinct_nearest)
-- ==== Pre_distinct_nearest.lean ====
abbrev S8192x3 : Shape := ⟨2, ![8192, 3]⟩
abbrev S8192x256 : Shape := ⟨2, ![8192, 256]⟩
abbrev S2048x3 : Shape := ⟨2, ![2048, 3]⟩
abbrev S2048x512 : Shape := ⟨2, ![2048, 512]⟩
abbrev S512x3 : Shape := ⟨2, ![512, 3]⟩
abbrev S512x1024 : Shape := ⟨2, ![512, 1024]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S1536x512 : Shape := ⟨2, ![1536, 512]⟩
abbrev S_ : Shape := ⟨0, ![]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S8192x8192 : Shape := ⟨2, ![8192, 8192]⟩
abbrev S8192x4 : Shape := ⟨2, ![8192, 4]⟩
abbrev S1x2048x3 : Shape := ⟨3, ![1, 2048, 3]⟩
abbrev S8192x2048x3 : Shape := ⟨3, ![8192, 2048, 3]⟩
abbrev S8192x2048 : Shape := ⟨2, ![8192, 2048]⟩
abbrev S1x512x3 : Shape := ⟨3, ![1, 512, 3]⟩
abbrev S8192x512x3 : Shape := ⟨3, ![8192, 512, 3]⟩
abbrev S8192x512 : Shape := ⟨2, ![8192, 512]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S2048x3 : S_.BroadcastsInDim S2048x3 (![] : Fin 0 → Fin S2048x3.rank)
  reducesTo_S2048x3_S_d0_1 : S2048x3.ReducesTo [0, 1] S_
  bcast_S_S2048x512 : S_.BroadcastsInDim S2048x512 (![] : Fin 0 → Fin S2048x512.rank)
  reducesTo_S2048x512_S_d0_1 : S2048x512.ReducesTo [0, 1] S_
  bcast_S_S512x3 : S_.BroadcastsInDim S512x3 (![] : Fin 0 → Fin S512x3.rank)
  reducesTo_S512x3_S_d0_1 : S512x3.ReducesTo [0, 1] S_
  bcast_S_S512x1024 : S_.BroadcastsInDim S512x1024 (![] : Fin 0 → Fin S512x1024.rank)
  reducesTo_S512x1024_S_d0_1 : S512x1024.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S1536x512 : S_.BroadcastsInDim S1536x512 (![] : Fin 0 → Fin S1536x512.rank)
  reducesTo_S1536x512_S_d0_1 : S1536x512.ReducesTo [0, 1] S_
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  sliceFits_S8192x8192_S8192x4 : S8192x8192.Slices (fun _ => 0) S8192x4
  slices_S8192x4_S8192x3_0_1 : S8192x4.Slices ![0, 1] S8192x3
  slices_S8192x4_S8192x3_0_0 : S8192x4.Slices ![0, 0] S8192x3
  bcast_S2048x3_S1x2048x3_1_2 : S2048x3.BroadcastsInDim S1x2048x3 (![1, 2] : Fin 2 → Fin S1x2048x3.rank)
  bcast_S8192x1x3_S8192x2048x3_0_1_2 : S8192x1x3.BroadcastsInDim S8192x2048x3 (![0, 1, 2] : Fin 3 → Fin S8192x2048x3.rank)
  bcast_S1x2048x3_S8192x2048x3_0_1_2 : S1x2048x3.BroadcastsInDim S8192x2048x3 (![0, 1, 2] : Fin 3 → Fin S8192x2048x3.rank)
  reducesTo_S8192x2048x3_S8192x2048_d2 : S8192x2048x3.ReducesTo [2] S8192x2048
  sliceFits_S8192x2048_S8192x4 : S8192x2048.Slices (fun _ => 0) S8192x4
  bcast_S512x3_S1x512x3_1_2 : S512x3.BroadcastsInDim S1x512x3 (![1, 2] : Fin 2 → Fin S1x512x3.rank)
  bcast_S8192x1x3_S8192x512x3_0_1_2 : S8192x1x3.BroadcastsInDim S8192x512x3 (![0, 1, 2] : Fin 3 → Fin S8192x512x3.rank)
  bcast_S1x512x3_S8192x512x3_0_1_2 : S1x512x3.BroadcastsInDim S8192x512x3 (![0, 1, 2] : Fin 3 → Fin S8192x512x3.rank)
  reducesTo_S8192x512x3_S8192x512_d2 : S8192x512x3.ReducesTo [2] S8192x512
  sliceFits_S8192x512_S8192x4 : S8192x512.Slices (fun _ => 0) S8192x4

variable [Facts]

def fn_part8 {F : FTy → Type} [FloatOps F] (main_v130 : IVec S_ 1) (main_v138 : FVec F S8192x512 .f32) (main_values_48 : FVec F S8192x4 .f32) : IVec S_ 1 :=
  let main_indices_49 : IVec S8192x4 32 := (fun x => (Host.topK S8192x4 1 (FloatOps.cmpfTotal .gt) x sliceFits_S8192x512_S8192x4).2) main_v138
  let main_v139 : FVec F S8192x3 .f32 := (extractStridedSlice S8192x3 ![0, 1] · slices_S8192x4_S8192x3_0_1) main_values_48
  let main_v140 : FVec F S8192x3 .f32 := (extractStridedSlice S8192x3 ![0, 0] · slices_S8192x4_S8192x3_0_0) main_values_48
  let main_v141 : IVec S8192x3 1 := cmpf .olt main_v139 main_v140
  let main_c_50 : IVec S_ 1 := constantI S_ 1 1#1
  let main_v142 : IVec S_ 1 := (fun x v => Host.reduce IntOp.andi x v reducesTo_S8192x3_S_d0_1 h_S_) main_v141 main_c_50
  let main_v143 : IVec S_ 1 := andi main_v130 main_v142
  main_v143

def fn_part7 {F : FTy → Type} [FloatOps F] (main_arg4 : FVec F S512x3 .f32) (main_arg6 : FVec F S8192x3 .f32) (main_v117 : IVec S_ 1) (main_v119 : FVec F S1x2048x3 .f32) (main_v120 : FVec F S8192x2048x3 .f32) : IVec S_ 1 :=
  let main_v121 : FVec F S8192x2048x3 .f32 := broadcastInDim S8192x2048x3 ![0, 1, 2] bcast_S1x2048x3_S8192x2048x3_0_1_2 main_v119
  let main_v122 : FVec F S8192x2048x3 .f32 := subf main_v120 main_v121
  let main_v123 : FVec F S8192x2048x3 .f32 := mulf main_v122 main_v122
  let main_cst_43 : FVec F S_ .f32 := constant S_ .f32 0x00000000#32
  let main_v124 : FVec F S8192x2048 .f32 := (fun x v => Host.reduceAdd x v reducesTo_S8192x2048x3_S8192x2048_d2 h_S_) main_v123 main_cst_43
  let main_v125 : FVec F S8192x2048 .f32 := Host.negf main_v124
  let main_values_44 : FVec F S8192x4 .f32 := (fun x => (Host.topK S8192x4 1 (FloatOps.cmpfTotal .gt) x sliceFits_S8192x2048_S8192x4).1) main_v125
  let main_indices_45 : IVec S8192x4 32 := (fun x => (Host.topK S8192x4 1 (FloatOps.cmpfTotal .gt) x sliceFits_S8192x2048_S8192x4).2) main_v125
  let main_v126 : FVec F S8192x3 .f32 := (extractStridedSlice S8192x3 ![0, 1] · slices_S8192x4_S8192x3_0_1) main_values_44
  let main_v127 : FVec F S8192x3 .f32 := (extractStridedSlice S8192x3 ![0, 0] · slices_S8192x4_S8192x3_0_0) main_values_44
  let main_v128 : IVec S8192x3 1 := cmpf .olt main_v126 main_v127
  let main_c_46 : IVec S_ 1 := constantI S_ 1 1#1
  let main_v129 : IVec S_ 1 := (fun x v => Host.reduce IntOp.andi x v reducesTo_S8192x3_S_d0_1 h_S_) main_v128 main_c_46
  let main_v130 : IVec S_ 1 := andi main_v117 main_v129
  let main_v131 : FVec F S8192x1x3 .f32 := broadcastInDim S8192x1x3 ![0, 2] bcast_S8192x3_S8192x1x3_0_2 main_arg6
  let main_v132 : FVec F S1x512x3 .f32 := broadcastInDim S1x512x3 ![1, 2] bcast_S512x3_S1x512x3_1_2 main_arg4
  let main_v133 : FVec F S8192x512x3 .f32 := broadcastInDim S8192x512x3 ![0, 1, 2] bcast_S8192x1x3_S8192x512x3_0_1_2 main_v131
  let main_v134 : FVec F S8192x512x3 .f32 := broadcastInDim S8192x512x3 ![0, 1, 2] bcast_S1x512x3_S8192x512x3_0_1_2 main_v132
  let main_v135 : FVec F S8192x512x3 .f32 := subf main_v133 main_v134
  let main_v136 : FVec F S8192x512x3 .f32 := mulf main_v135 main_v135
  let main_cst_47 : FVec F S_ .f32 := constant S_ .f32 0x00000000#32
  let main_v137 : FVec F S8192x512 .f32 := (fun x v => Host.reduceAdd x v reducesTo_S8192x512x3_S8192x512_d2 h_S_) main_v136 main_cst_47
  let main_v138 : FVec F S8192x512 .f32 := Host.negf main_v137
  let main_values_48 : FVec F S8192x4 .f32 := (fun x => (Host.topK S8192x4 1 (FloatOps.cmpfTotal .gt) x sliceFits_S8192x512_S8192x4).1) main_v138
  fn_part8 (F := F) main_v130 main_v138 main_values_48

def fn_part6 {F : FTy → Type} [FloatOps F] (main_arg0 : FVec F S8192x3 .f32) (main_arg2 : FVec F S2048x3 .f32) (main_arg4 : FVec F S512x3 .f32) (main_arg6 : FVec F S8192x3 .f32) (main_v99 : IVec S_ 1) (main_v100 : FVec F S512 .f32) (main_v101 : FVec F S512 .f32) : IVec S_ 1 :=
  let main_v102 : IVec S512 1 := cmpf .olt main_v100 main_v101
  let main_c_40 : IVec S_ 1 := constantI S_ 1 1#1
  let main_v103 : IVec S_ 1 := (fun x v => Host.reduce IntOp.andi x v reducesTo_S512_S_d0 h_S_) main_v102 main_c_40
  let main_v104 : IVec S_ 1 := andi main_v99 main_v103
  let main_v105 : FVec F S8192x1x3 .f32 := broadcastInDim S8192x1x3 ![0, 2] bcast_S8192x3_S8192x1x3_0_2 main_arg6
  let main_v106 : FVec F S1x8192x3 .f32 := broadcastInDim S1x8192x3 ![1, 2] bcast_S8192x3_S1x8192x3_1_2 main_arg0
  let main_v107 : FVec F S8192x8192x3 .f32 := broadcastInDim S8192x8192x3 ![0, 1, 2] bcast_S8192x1x3_S8192x8192x3_0_1_2 main_v105
  let main_v108 : FVec F S8192x8192x3 .f32 := broadcastInDim S8192x8192x3 ![0, 1, 2] bcast_S1x8192x3_S8192x8192x3_0_1_2 main_v106
  let main_v109 : FVec F S8192x8192x3 .f32 := subf main_v107 main_v108
  let main_v110 : FVec F S8192x8192x3 .f32 := mulf main_v109 main_v109
  let main_cst_41 : FVec F S_ .f32 := constant S_ .f32 0x00000000#32
  let main_v111 : FVec F S8192x8192 .f32 := (fun x v => Host.reduceAdd x v reducesTo_S8192x8192x3_S8192x8192_d2 h_S_) main_v110 main_cst_41
  let main_v112 : FVec F S8192x8192 .f32 := Host.negf main_v111
  let main_values : FVec F S8192x4 .f32 := (fun x => (Host.topK S8192x4 1 (FloatOps.cmpfTotal .gt) x sliceFits_S8192x8192_S8192x4).1) main_v112
  let main_indices : IVec S8192x4 32 := (fun x => (Host.topK S8192x4 1 (FloatOps.cmpfTotal .gt) x sliceFits_S8192x8192_S8192x4).2) main_v112
  let main_v113 : FVec F S8192x3 .f32 := (extractStridedSlice S8192x3 ![0, 1] · slices_S8192x4_S8192x3_0_1) main_values
  let main_v114 : FVec F S8192x3 .f32 := (extractStridedSlice S8192x3 ![0, 0] · slices_S8192x4_S8192x3_0_0) main_values
  let main_v115 : IVec S8192x3 1 := cmpf .olt main_v113 main_v114
  let main_c_42 : IVec S_ 1 := constantI S_ 1 1#1
  let main_v116 : IVec S_ 1 := (fun x v => Host.reduce IntOp.andi x v reducesTo_S8192x3_S_d0_1 h_S_) main_v115 main_c_42
  let main_v117 : IVec S_ 1 := andi main_v104 main_v116
  let main_v118 : FVec F S8192x1x3 .f32 := broadcastInDim S8192x1x3 ![0, 2] bcast_S8192x3_S8192x1x3_0_2 main_arg6
  let main_v119 : FVec F S1x2048x3 .f32 := broadcastInDim S1x2048x3 ![1, 2] bcast_S2048x3_S1x2048x3_1_2 main_arg2
  let main_v120 : FVec F S8192x2048x3 .f32 := broadcastInDim S8192x2048x3 ![0, 1, 2] bcast_S8192x1x3_S8192x2048x3_0_1_2 main_v118
  fn_part7 (F := F) main_arg4 main_arg6 main_v117 main_v119 main_v120

def fn_part5 {F : FTy → Type} [FloatOps F] (main_arg0 : FVec F S8192x3 .f32) (main_arg2 : FVec F S2048x3 .f32) (main_arg4 : FVec F S512x3 .f32) (main_arg6 : FVec F S8192x3 .f32) (main_arg17 : FVec F S512x512 .f32) (main_arg18 : FVec F S512 .f32) (main_arg19 : FVec F S512x512 .f32) (main_arg20 : FVec F S512 .f32) (main_v84 : IVec S_ 1) : IVec S_ 1 :=
  let main_v85 : FVec F S512x512 .f32 := Host.absf main_arg17
  let main_cst_33 : FVec F S_ .f32 := constant S_ .f32 0x7F800000#32
  let main_v86 : FVec F S512x512 .f32 := broadcastInDim S512x512 ![] bcast_S_S512x512 main_cst_33
  let main_v87 : IVec S512x512 1 := cmpf .olt main_v85 main_v86
  let main_c_34 : IVec S_ 1 := constantI S_ 1 1#1
  let main_v88 : IVec S_ 1 := (fun x v => Host.reduce IntOp.andi x v reducesTo_S512x512_S_d0_1 h_S_) main_v87 main_c_34
  let main_v89 : IVec S_ 1 := andi main_v84 main_v88
  let main_v90 : FVec F S512 .f32 := Host.absf main_arg18
  let main_cst_35 : FVec F S_ .f32 := constant S_ .f32 0x7F800000#32
  let main_v91 : FVec F S512 .f32 := broadcastInDim S512 ![] bcast_S_S512 main_cst_35
  let main_v92 : IVec S512 1 := cmpf .olt main_v90 main_v91
  let main_c_36 : IVec S_ 1 := constantI S_ 1 1#1
  let main_v93 : IVec S_ 1 := (fun x v => Host.reduce IntOp.andi x v reducesTo_S512_S_d0 h_S_) main_v92 main_c_36
  let main_v94 : IVec S_ 1 := andi main_v89 main_v93
  let main_v95 : FVec F S512x512 .f32 := Host.absf main_arg19
  let main_cst_37 : FVec F S_ .f32 := constant S_ .f32 0x7F800000#32
  let main_v96 : FVec F S512x512 .f32 := broadcastInDim S512x512 ![] bcast_S_S512x512 main_cst_37
  let main_v97 : IVec S512x512 1 := cmpf .olt main_v95 main_v96
  let main_c_38 : IVec S_ 1 := constantI S_ 1 1#1
  let main_v98 : IVec S_ 1 := (fun x v => Host.reduce IntOp.andi x v reducesTo_S512x512_S_d0_1 h_S_) main_v97 main_c_38
  let main_v99 : IVec S_ 1 := andi main_v94 main_v98
  let main_v100 : FVec F S512 .f32 := Host.absf main_arg20
  let main_cst_39 : FVec F S_ .f32 := constant S_ .f32 0x7F800000#32
  let main_v101 : FVec F S512 .f32 := broadcastInDim S512 ![] bcast_S_S512 main_cst_39
  fn_part6 (F := F) main_arg0 main_arg2 main_arg4 main_arg6 main_v99 main_v100 main_v101

def fn_part4 {F : FTy → Type} [FloatOps F] (main_arg0 : FVec F S8192x3 .f32) (main_arg2 : FVec F S2048x3 .f32) (main_arg4 : FVec F S512x3 .f32) (main_arg6 : FVec F S8192x3 .f32) (main_arg14 : FVec F S512 .f32) (main_arg15 : FVec F S512x512 .f32) (main_arg16 : FVec F S512 .f32) (main_arg17 : FVec F S512x512 .f32) (main_arg18 : FVec F S512 .f32) (main_arg19 : FVec F S512x512 .f32) (main_arg20 : FVec F S512 .f32) (main_v64 : IVec S_ 1) (main_v67 : IVec S1536x512 1) : IVec S_ 1 :=
  let main_c_26 : IVec S_ 1 := constantI S_ 1 1#1
  let main_v68 : IVec S_ 1 := (fun x v => Host.reduce IntOp.andi x v reducesTo_S1536x512_S_d0_1 h_S_) main_v67 main_c_26
  let main_v69 : IVec S_ 1 := andi main_v64 main_v68
  let main_v70 : FVec F S512 .f32 := Host.absf main_arg14
  let main_cst_27 : FVec F S_ .f32 := constant S_ .f32 0x7F800000#32
  let main_v71 : FVec F S512 .f32 := broadcastInDim S512 ![] bcast_S_S512 main_cst_27
  let main_v72 : IVec S512 1 := cmpf .olt main_v70 main_v71
  let main_c_28 : IVec S_ 1 := constantI S_ 1 1#1
  let main_v73 : IVec S_ 1 := (fun x v => Host.reduce IntOp.andi x v reducesTo_S512_S_d0 h_S_) main_v72 main_c_28
  let main_v74 : IVec S_ 1 := andi main_v69 main_v73
  let main_v75 : FVec F S512x512 .f32 := Host.absf main_arg15
  let main_cst_29 : FVec F S_ .f32 := constant S_ .f32 0x7F800000#32
  let main_v76 : FVec F S512x512 .f32 := broadcastInDim S512x512 ![] bcast_S_S512x512 main_cst_29
  let main_v77 : IVec S512x512 1 := cmpf .olt main_v75 main_v76
  let main_c_30 : IVec S_ 1 := constantI S_ 1 1#1
  let main_v78 : IVec S_ 1 := (fun x v => Host.reduce IntOp.andi x v reducesTo_S512x512_S_d0_1 h_S_) main_v77 main_c_30
  let main_v79 : IVec S_ 1 := andi main_v74 main_v78
  let main_v80 : FVec F S512 .f32 := Host.absf main_arg16
  let main_cst_31 : FVec F S_ .f32 := constant S_ .f32 0x7F800000#32
  let main_v81 : FVec F S512 .f32 := broadcastInDim S512 ![] bcast_S_S512 main_cst_31
  let main_v82 : IVec S512 1 := cmpf .olt main_v80 main_v81
  let main_c_32 : IVec S_ 1 := constantI S_ 1 1#1
  let main_v83 : IVec S_ 1 := (fun x v => Host.reduce IntOp.andi x v reducesTo_S512_S_d0 h_S_) main_v82 main_c_32
  let main_v84 : IVec S_ 1 := andi main_v79 main_v83
  fn_part5 (F := F) main_arg0 main_arg2 main_arg4 main_arg6 main_arg17 main_arg18 main_arg19 main_arg20 main_v84

def fn_part3 {F : FTy → Type} [FloatOps F] (main_arg0 : FVec F S8192x3 .f32) (main_arg2 : FVec F S2048x3 .f32) (main_arg4 : FVec F S512x3 .f32) (main_arg6 : FVec F S8192x3 .f32) (main_arg11 : FVec F S1024x512 .f32) (main_arg12 : FVec F S512 .f32) (main_arg13 : FVec F S1536x512 .f32) (main_arg14 : FVec F S512 .f32) (main_arg15 : FVec F S512x512 .f32) (main_arg16 : FVec F S512 .f32) (main_arg17 : FVec F S512x512 .f32) (main_arg18 : FVec F S512 .f32) (main_arg19 : FVec F S512x512 .f32) (main_arg20 : FVec F S512 .f32) (main_v49 : IVec S_ 1) (main_v50 : FVec F S512 .f32) : IVec S_ 1 :=
  let main_cst_19 : FVec F S_ .f32 := constant S_ .f32 0x7F800000#32
  let main_v51 : FVec F S512 .f32 := broadcastInDim S512 ![] bcast_S_S512 main_cst_19
  let main_v52 : IVec S512 1 := cmpf .olt main_v50 main_v51
  let main_c_20 : IVec S_ 1 := constantI S_ 1 1#1
  let main_v53 : IVec S_ 1 := (fun x v => Host.reduce IntOp.andi x v reducesTo_S512_S_d0 h_S_) main_v52 main_c_20
  let main_v54 : IVec S_ 1 := andi main_v49 main_v53
  let main_v55 : FVec F S1024x512 .f32 := Host.absf main_arg11
  let main_cst_21 : FVec F S_ .f32 := constant S_ .f32 0x7F800000#32
  let main_v56 : FVec F S1024x512 .f32 := broadcastInDim S1024x512 ![] bcast_S_S1024x512 main_cst_21
  let main_v57 : IVec S1024x512 1 := cmpf .olt main_v55 main_v56
  let main_c_22 : IVec S_ 1 := constantI S_ 1 1#1
  let main_v58 : IVec S_ 1 := (fun x v => Host.reduce IntOp.andi x v reducesTo_S1024x512_S_d0_1 h_S_) main_v57 main_c_22
  let main_v59 : IVec S_ 1 := andi main_v54 main_v58
  let main_v60 : FVec F S512 .f32 := Host.absf main_arg12
  let main_cst_23 : FVec F S_ .f32 := constant S_ .f32 0x7F800000#32
  let main_v61 : FVec F S512 .f32 := broadcastInDim S512 ![] bcast_S_S512 main_cst_23
  let main_v62 : IVec S512 1 := cmpf .olt main_v60 main_v61
  let main_c_24 : IVec S_ 1 := constantI S_ 1 1#1
  let main_v63 : IVec S_ 1 := (fun x v => Host.reduce IntOp.andi x v reducesTo_S512_S_d0 h_S_) main_v62 main_c_24
  let main_v64 : IVec S_ 1 := andi main_v59 main_v63
  let main_v65 : FVec F S1536x512 .f32 := Host.absf main_arg13
  let main_cst_25 : FVec F S_ .f32 := constant S_ .f32 0x7F800000#32
  let main_v66 : FVec F S1536x512 .f32 := broadcastInDim S1536x512 ![] bcast_S_S1536x512 main_cst_25
  let main_v67 : IVec S1536x512 1 := cmpf .olt main_v65 main_v66
  fn_part4 (F := F) main_arg0 main_arg2 main_arg4 main_arg6 main_arg14 main_arg15 main_arg16 main_arg17 main_arg18 main_arg19 main_arg20 main_v64 main_v67

def fn_part2 {F : FTy → Type} [FloatOps F] (main_arg0 : FVec F S8192x3 .f32) (main_arg2 : FVec F S2048x3 .f32) (main_arg4 : FVec F S512x3 .f32) (main_arg6 : FVec F S8192x3 .f32) (main_arg7 : FVec F S256x512 .f32) (main_arg8 : FVec F S512 .f32) (main_arg9 : FVec F S512x512 .f32) (main_arg10 : FVec F S512 .f32) (main_arg11 : FVec F S1024x512 .f32) (main_arg12 : FVec F S512 .f32) (main_arg13 : FVec F S1536x512 .f32) (main_arg14 : FVec F S512 .f32) (main_arg15 : FVec F S512x512 .f32) (main_arg16 : FVec F S512 .f32) (main_arg17 : FVec F S512x512 .f32) (main_arg18 : FVec F S512 .f32) (main_arg19 : FVec F S512x512 .f32) (main_arg20 : FVec F S512 .f32) (main_v29 : IVec S_ 1) (main_v32 : IVec S8192x3 1) (main_c_12 : IVec S_ 1) : IVec S_ 1 :=
  let main_v33 : IVec S_ 1 := (fun x v => Host.reduce IntOp.andi x v reducesTo_S8192x3_S_d0_1 h_S_) main_v32 main_c_12
  let main_v34 : IVec S_ 1 := andi main_v29 main_v33
  let main_v35 : FVec F S256x512 .f32 := Host.absf main_arg7
  let main_cst_13 : FVec F S_ .f32 := constant S_ .f32 0x7F800000#32
  let main_v36 : FVec F S256x512 .f32 := broadcastInDim S256x512 ![] bcast_S_S256x512 main_cst_13
  let main_v37 : IVec S256x512 1 := cmpf .olt main_v35 main_v36
  let main_c_14 : IVec S_ 1 := constantI S_ 1 1#1
  let main_v38 : IVec S_ 1 := (fun x v => Host.reduce IntOp.andi x v reducesTo_S256x512_S_d0_1 h_S_) main_v37 main_c_14
  let main_v39 : IVec S_ 1 := andi main_v34 main_v38
  let main_v40 : FVec F S512 .f32 := Host.absf main_arg8
  let main_cst_15 : FVec F S_ .f32 := constant S_ .f32 0x7F800000#32
  let main_v41 : FVec F S512 .f32 := broadcastInDim S512 ![] bcast_S_S512 main_cst_15
  let main_v42 : IVec S512 1 := cmpf .olt main_v40 main_v41
  let main_c_16 : IVec S_ 1 := constantI S_ 1 1#1
  let main_v43 : IVec S_ 1 := (fun x v => Host.reduce IntOp.andi x v reducesTo_S512_S_d0 h_S_) main_v42 main_c_16
  let main_v44 : IVec S_ 1 := andi main_v39 main_v43
  let main_v45 : FVec F S512x512 .f32 := Host.absf main_arg9
  let main_cst_17 : FVec F S_ .f32 := constant S_ .f32 0x7F800000#32
  let main_v46 : FVec F S512x512 .f32 := broadcastInDim S512x512 ![] bcast_S_S512x512 main_cst_17
  let main_v47 : IVec S512x512 1 := cmpf .olt main_v45 main_v46
  let main_c_18 : IVec S_ 1 := constantI S_ 1 1#1
  let main_v48 : IVec S_ 1 := (fun x v => Host.reduce IntOp.andi x v reducesTo_S512x512_S_d0_1 h_S_) main_v47 main_c_18
  let main_v49 : IVec S_ 1 := andi main_v44 main_v48
  let main_v50 : FVec F S512 .f32 := Host.absf main_arg10
  fn_part3 (F := F) main_arg0 main_arg2 main_arg4 main_arg6 main_arg11 main_arg12 main_arg13 main_arg14 main_arg15 main_arg16 main_arg17 main_arg18 main_arg19 main_arg20 main_v49 main_v50

def fn_part1 {F : FTy → Type} [FloatOps F] (main_arg0 : FVec F S8192x3 .f32) (main_arg2 : FVec F S2048x3 .f32) (main_arg4 : FVec F S512x3 .f32) (main_arg5 : FVec F S512x1024 .f32) (main_arg6 : FVec F S8192x3 .f32) (main_arg7 : FVec F S256x512 .f32) (main_arg8 : FVec F S512 .f32) (main_arg9 : FVec F S512x512 .f32) (main_arg10 : FVec F S512 .f32) (main_arg11 : FVec F S1024x512 .f32) (main_arg12 : FVec F S512 .f32) (main_arg13 : FVec F S1536x512 .f32) (main_arg14 : FVec F S512 .f32) (main_arg15 : FVec F S512x512 .f32) (main_arg16 : FVec F S512 .f32) (main_arg17 : FVec F S512x512 .f32) (main_arg18 : FVec F S512 .f32) (main_arg19 : FVec F S512x512 .f32) (main_arg20 : FVec F S512 .f32) (main_v14 : IVec S_ 1) (main_v15 : FVec F S2048x512 .f32) (main_cst_5 : FVec F S_ .f32) : IVec S_ 1 :=
  let main_v16 : FVec F S2048x512 .f32 := broadcastInDim S2048x512 ![] bcast_S_S2048x512 main_cst_5
  let main_v17 : IVec S2048x512 1 := cmpf .olt main_v15 main_v16
  let main_c_6 : IVec S_ 1 := constantI S_ 1 1#1
  let main_v18 : IVec S_ 1 := (fun x v => Host.reduce IntOp.andi x v reducesTo_S2048x512_S_d0_1 h_S_) main_v17 main_c_6
  let main_v19 : IVec S_ 1 := andi main_v14 main_v18
  let main_v20 : FVec F S512x3 .f32 := Host.absf main_arg4
  let main_cst_7 : FVec F S_ .f32 := constant S_ .f32 0x7F800000#32
  let main_v21 : FVec F S512x3 .f32 := broadcastInDim S512x3 ![] bcast_S_S512x3 main_cst_7
  let main_v22 : IVec S512x3 1 := cmpf .olt main_v20 main_v21
  let main_c_8 : IVec S_ 1 := constantI S_ 1 1#1
  let main_v23 : IVec S_ 1 := (fun x v => Host.reduce IntOp.andi x v reducesTo_S512x3_S_d0_1 h_S_) main_v22 main_c_8
  let main_v24 : IVec S_ 1 := andi main_v19 main_v23
  let main_v25 : FVec F S512x1024 .f32 := Host.absf main_arg5
  let main_cst_9 : FVec F S_ .f32 := constant S_ .f32 0x7F800000#32
  let main_v26 : FVec F S512x1024 .f32 := broadcastInDim S512x1024 ![] bcast_S_S512x1024 main_cst_9
  let main_v27 : IVec S512x1024 1 := cmpf .olt main_v25 main_v26
  let main_c_10 : IVec S_ 1 := constantI S_ 1 1#1
  let main_v28 : IVec S_ 1 := (fun x v => Host.reduce IntOp.andi x v reducesTo_S512x1024_S_d0_1 h_S_) main_v27 main_c_10
  let main_v29 : IVec S_ 1 := andi main_v24 main_v28
  let main_v30 : FVec F S8192x3 .f32 := Host.absf main_arg6
  let main_cst_11 : FVec F S_ .f32 := constant S_ .f32 0x7F800000#32
  let main_v31 : FVec F S8192x3 .f32 := broadcastInDim S8192x3 ![] bcast_S_S8192x3 main_cst_11
  let main_v32 : IVec S8192x3 1 := cmpf .olt main_v30 main_v31
  let main_c_12 : IVec S_ 1 := constantI S_ 1 1#1
  fn_part2 (F := F) main_arg0 main_arg2 main_arg4 main_arg6 main_arg7 main_arg8 main_arg9 main_arg10 main_arg11 main_arg12 main_arg13 main_arg14 main_arg15 main_arg16 main_arg17 main_arg18 main_arg19 main_arg20 main_v29 main_v32 main_c_12

def fn {F : FTy → Type} [FloatOps F] (main_arg0 : FVec F S8192x3 .f32) (main_arg1 : FVec F S8192x256 .f32) (main_arg2 : FVec F S2048x3 .f32) (main_arg3 : FVec F S2048x512 .f32) (main_arg4 : FVec F S512x3 .f32) (main_arg5 : FVec F S512x1024 .f32) (main_arg6 : FVec F S8192x3 .f32) (main_arg7 : FVec F S256x512 .f32) (main_arg8 : FVec F S512 .f32) (main_arg9 : FVec F S512x512 .f32) (main_arg10 : FVec F S512 .f32) (main_arg11 : FVec F S1024x512 .f32) (main_arg12 : FVec F S512 .f32) (main_arg13 : FVec F S1536x512 .f32) (main_arg14 : FVec F S512 .f32) (main_arg15 : FVec F S512x512 .f32) (main_arg16 : FVec F S512 .f32) (main_arg17 : FVec F S512x512 .f32) (main_arg18 : FVec F S512 .f32) (main_arg19 : FVec F S512x512 .f32) (main_arg20 : FVec F S512 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_c_0 : IVec S_ 1 := constantI S_ 1 1#1
  let main_v4 : IVec S_ 1 := andi main_c_0 main_v3
  let main_v5 : FVec F S8192x256 .f32 := Host.absf main_arg1
  let main_cst_1 : FVec F S_ .f32 := constant S_ .f32 0x7F800000#32
  let main_v6 : FVec F S8192x256 .f32 := broadcastInDim S8192x256 ![] bcast_S_S8192x256 main_cst_1
  let main_v7 : IVec S8192x256 1 := cmpf .olt main_v5 main_v6
  let main_c_2 : IVec S_ 1 := constantI S_ 1 1#1
  let main_v8 : IVec S_ 1 := (fun x v => Host.reduce IntOp.andi x v reducesTo_S8192x256_S_d0_1 h_S_) main_v7 main_c_2
  let main_v9 : IVec S_ 1 := andi main_v4 main_v8
  let main_v10 : FVec F S2048x3 .f32 := Host.absf main_arg2
  let main_cst_3 : FVec F S_ .f32 := constant S_ .f32 0x7F800000#32
  let main_v11 : FVec F S2048x3 .f32 := broadcastInDim S2048x3 ![] bcast_S_S2048x3 main_cst_3
  let main_v12 : IVec S2048x3 1 := cmpf .olt main_v10 main_v11
  let main_c_4 : IVec S_ 1 := constantI S_ 1 1#1
  let main_v13 : IVec S_ 1 := (fun x v => Host.reduce IntOp.andi x v reducesTo_S2048x3_S_d0_1 h_S_) main_v12 main_c_4
  let main_v14 : IVec S_ 1 := andi main_v9 main_v13
  let main_v15 : FVec F S2048x512 .f32 := Host.absf main_arg3
  let main_cst_5 : FVec F S_ .f32 := constant S_ .f32 0x7F800000#32
  fn_part1 (F := F) main_arg0 main_arg2 main_arg4 main_arg5 main_arg6 main_arg7 main_arg8 main_arg9 main_arg10 main_arg11 main_arg12 main_arg13 main_arg14 main_arg15 main_arg16 main_arg17 main_arg18 main_arg19 main_arg20 main_v14 main_v15 main_cst_5
-- ==== Kernel.lean ====
abbrev S8192x3 : Shape := ⟨2, ![8192, 3]⟩
abbrev S8192x256 : Shape := ⟨2, ![8192, 256]⟩
abbrev S2048x3 : Shape := ⟨2, ![2048, 3]⟩
abbrev S2048x512 : Shape := ⟨2, ![2048, 512]⟩
abbrev S512x3 : Shape := ⟨2, ![512, 3]⟩
abbrev S512x1024 : Shape := ⟨2, ![512, 1024]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S1536x512 : Shape := ⟨2, ![1536, 512]⟩
abbrev S3x8192 : Shape := ⟨2, ![3, 8192]⟩
abbrev S3x2048 : Shape := ⟨2, ![3, 2048]⟩
abbrev S3x512 : Shape := ⟨2, ![3, 512]⟩
abbrev S1x512 : Shape := ⟨2, ![1, 512]⟩
abbrev S8192x512 : Shape := ⟨2, ![8192, 512]⟩
abbrev S256x3 : Shape := ⟨2, ![256, 3]⟩
abbrev S256x8192 : Shape := ⟨2, ![256, 8192]⟩
abbrev S256x1 : Shape := ⟨2, ![256, 1]⟩
abbrev S1x8192 : Shape := ⟨2, ![1, 8192]⟩
abbrev S256 : Shape := ⟨1, ![256]⟩
abbrev S256x256 : Shape := ⟨2, ![256, 256]⟩
abbrev S256x2048 : Shape := ⟨2, ![256, 2048]⟩
abbrev S1x2048 : Shape := ⟨2, ![1, 2048]⟩
abbrev S256x1024 : Shape := ⟨2, ![256, 1024]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8192 : Shape := ⟨1, ![8192]⟩
abbrev S8192x1 : Shape := ⟨2, ![8192, 1]⟩
abbrev S64x65536 : Shape := ⟨2, ![64, 65536]⟩
abbrev S64x8192 : Shape := ⟨2, ![64, 8192]⟩
abbrev S128x512 : Shape := ⟨2, ![128, 512]⟩

abbrev nBuf : Space → Nat
  | .hbm => 93
  | .vmem => 56
  | .smem => 0
  | _ => 0

abbrev bufTy : (tb : Table) → Fin (tcTables nBuf tb) → BufTy
  | .hbm, ⟨0, _⟩ => ⟨S8192x3, .f32⟩
  | .hbm, ⟨1, _⟩ => ⟨S8192x256, .f32⟩
  | .hbm, ⟨2, _⟩ => ⟨S2048x3, .f32⟩
  | .hbm, ⟨3, _⟩ => ⟨S2048x512, .f32⟩
  | .hbm, ⟨4, _⟩ => ⟨S512x3, .f32⟩
  | .hbm, ⟨5, _⟩ => ⟨S512x1024, .f32⟩
  | .hbm, ⟨6, _⟩ => ⟨S8192x3, .f32⟩
  | .hbm, ⟨7, _⟩ => ⟨S256x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S1536x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S3x8192, .f32⟩
  | .hbm, ⟨22, _⟩ => ⟨S3x2048, .f32⟩
  | .hbm, ⟨23, _⟩ => ⟨S3x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S8192x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64, .i32⟩
  | .hbm, ⟨35, _⟩ => ⟨S64x1, .i32⟩
  | .hbm, ⟨36, _⟩ => ⟨S1x64, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S64x64, .f32⟩
  | .hbm, ⟨41, _⟩ => ⟨S_, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .f32⟩
  | .hbm, ⟨52, _⟩ => ⟨S_, .f32⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S64x64, .f32⟩
  | .hbm, ⟨73, _⟩ => ⟨S64x64, .f32⟩
  | .hbm, ⟨74, _⟩ => ⟨S128x128, .f32⟩
  | .hbm, ⟨75, _⟩ => ⟨S128x128, .f32⟩
  | .hbm, ⟨76, _⟩ => ⟨S8192, .f32⟩
  | .hbm, ⟨77, _⟩ => ⟨S8192x1, .f32⟩
  | .hbm, ⟨78, _⟩ => ⟨S8192, .f32⟩
  | .hbm, ⟨79, _⟩ => ⟨S8192x1, .f32⟩
  | .hbm, ⟨80, _⟩ => ⟨S64x65536, .f32⟩
  | .hbm, ⟨81, _⟩ => ⟨S64x65536, .f32⟩
  | .hbm, ⟨82, _⟩ => ⟨S64x65536, .f32⟩
  | .hbm, ⟨83, _⟩ => ⟨S8192x512, .f32⟩
  | .hbm, ⟨84, _⟩ => ⟨S8192x512, .f32⟩
  | .hbm, ⟨85, _⟩ => ⟨S1x512, .f32⟩
  | .hbm, ⟨86, _⟩ => ⟨S1x512, .f32⟩
  | .hbm, ⟨87, _⟩ => ⟨S8192x512, .f32⟩
  | .hbm, ⟨88, _⟩ => ⟨S8192x512, .f32⟩
  | .hbm, ⟨89, _⟩ => ⟨S64x65536, .f32⟩
  | .hbm, ⟨90, _⟩ => ⟨S64x65536, .f32⟩
  | .hbm, ⟨91, _⟩ => ⟨S64x65536, .f32⟩
  | .hbm, ⟨92, _⟩ => ⟨S8192x512, .f32⟩
  | .local _ .vmem, ⟨0, _⟩ => ⟨S256x3, .f32⟩
  | .local _ .vmem, ⟨1, _⟩ => ⟨S256x3, .f32⟩
  | .local _ .vmem, ⟨2, _⟩ => ⟨S3x8192, .f32⟩
  | .local _ .vmem, ⟨3, _⟩ => ⟨S8192x256, .f32⟩
  | .local _ .vmem, ⟨4, _⟩ => ⟨S256x512, .f32⟩
  | .local _ .vmem, ⟨5, _⟩ => ⟨S1x512, .f32⟩
  | .local _ .vmem, ⟨6, _⟩ => ⟨S3x2048, .f32⟩
  | .local _ .vmem, ⟨7, _⟩ => ⟨S2048x512, .f32⟩
  | .local _ .vmem, ⟨8, _⟩ => ⟨S512x512, .f32⟩
  | .local _ .vmem, ⟨9, _⟩ => ⟨S1x512, .f32⟩
  | .local _ .vmem, ⟨10, _⟩ => ⟨S3x512, .f32⟩
  | .local _ .vmem, ⟨11, _⟩ => ⟨S512x1024, .f32⟩
  | .local _ .vmem, ⟨12, _⟩ => ⟨S1024x512, .f32⟩
  | .local _ .vmem, ⟨13, _⟩ => ⟨S1x512, .f32⟩
  | .local _ .vmem, ⟨14, _⟩ => ⟨S1536x512, .f32⟩
  | .local _ .vmem, ⟨15, _⟩ => ⟨S1x512, .f32⟩
  | .local _ .vmem, ⟨16, _⟩ => ⟨S512x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S64x64, .f32⟩
  | .local _ .vmem, ⟨21, _⟩ => ⟨S64x64, .f32⟩
  | .local _ .vmem, ⟨22, _⟩ => ⟨S64x8192, .f32⟩
  | .local _ .vmem, ⟨23, _⟩ => ⟨S64x8192, .f32⟩
  | .local _ .vmem, ⟨24, _⟩ => ⟨S64x8192, .f32⟩
  | .local _ .vmem, ⟨25, _⟩ => ⟨S64x8192, .f32⟩
  | .local _ .vmem, ⟨26, _⟩ => ⟨S64x8192, .f32⟩
  | .local _ .vmem, ⟨27, _⟩ => ⟨S64x8192, .f32⟩
  | .local _ .vmem, ⟨28, _⟩ => ⟨S128x128, .f32⟩
  | .local _ .vmem, ⟨29, _⟩ => ⟨S128x128, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S128x512, .f32⟩
  | .local _ .vmem, ⟨34, _⟩ => ⟨S128x1, .f32⟩
  | .local _ .vmem, ⟨35, _⟩ => ⟨S128x1, .f32⟩
  | .local _ .vmem, ⟨36, _⟩ => ⟨S128x1, .f32⟩
  | .local _ .vmem, ⟨37, _⟩ => ⟨S128x1, .f32⟩
  | .local _ .vmem, ⟨38, _⟩ => ⟨S512x512, .f32⟩
  | .local _ .vmem, ⟨39, _⟩ => ⟨S1x512, .f32⟩
  | .local _ .vmem, ⟨40, _⟩ => ⟨S512x512, .f32⟩
  | .local _ .vmem, ⟨41, _⟩ => ⟨S1x512, .f32⟩
  | .local _ .vmem, ⟨42, _⟩ => ⟨S128x512, .f32⟩
  | .local _ .vmem, ⟨43, _⟩ => ⟨S128x512, .f32⟩
  | .local _ .vmem, ⟨44, _⟩ => ⟨S128x512, .f32⟩
  | .local _ .vmem, ⟨45, _⟩ => ⟨S128x512, .f32⟩
  | .local _ .vmem, ⟨46, _⟩ => ⟨S64x64, .f32⟩
  | .local _ .vmem, ⟨47, _⟩ => ⟨S64x64, .f32⟩
  | .local _ .vmem, ⟨48, _⟩ => ⟨S64x8192, .f32⟩
  | .local _ .vmem, ⟨49, _⟩ => ⟨S64x8192, .f32⟩
  | .local _ .vmem, ⟨50, _⟩ => ⟨S64x8192, .f32⟩
  | .local _ .vmem, ⟨51, _⟩ => ⟨S64x8192, .f32⟩
  | .local _ .vmem, ⟨52, _⟩ => ⟨S64x8192, .f32⟩
  | .local _ .vmem, ⟨53, _⟩ => ⟨S64x8192, .f32⟩
  | .local _ .vmem, ⟨54, _⟩ => ⟨S64x8192, .f32⟩
  | .local _ .vmem, ⟨55, _⟩ => ⟨S64x8192, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c : Ref sig .tc := ⟨.hbm, 57, rfl⟩
abbrev main_v32 : Ref sig .tc := ⟨.hbm, 58, rfl⟩
abbrev main_v33 : Ref sig .tc := ⟨.hbm, 59, rfl⟩
abbrev main_c_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc2_stg11_0 : Ref sig .tc := ⟨.vmem, 44, rfl⟩
abbrev cc2_stg11_1 : Ref sig .tc := ⟨.vmem, 45, rfl⟩
abbrev cc3_stg0_0 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg4_1 : Ref sig .tc := ⟨.vmem, 53, rfl⟩
abbrev cc3_stg5_0 : Ref sig .tc := ⟨.vmem, 54, rfl⟩
abbrev cc3_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc1_sem0_0 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43
abbrev cc2_sem11_0 : DmaSem sig := 44
abbrev cc2_sem11_1 : DmaSem sig := 45
abbrev cc3_sem0_0 : DmaSem sig := 46
abbrev cc3_sem1_0 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem4_1 : DmaSem sig := 53
abbrev cc3_sem5_0 : DmaSem sig := 54
abbrev cc3_sem5_1 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S512x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S128x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S128x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S64x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x8192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S64x8192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S64x8192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "far" => some ⊤
  | _ => none
-- ==== ReferenceIdeal.lean ====
abbrev S8192x3 : Shape := ⟨2, ![8192, 3]⟩
abbrev S8192x256 : Shape := ⟨2, ![8192, 256]⟩
abbrev S2048x3 : Shape := ⟨2, ![2048, 3]⟩
abbrev S2048x512 : Shape := ⟨2, ![2048, 512]⟩
abbrev S512x3 : Shape := ⟨2, ![512, 3]⟩
abbrev S512x1024 : Shape := ⟨2, ![512, 1024]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S1536x512 : Shape := ⟨2, ![1536, 512]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192x3x1 : Shape := ⟨3, ![8192, 3, 1]⟩
abbrev S8192x3x256 : Shape := ⟨3, ![8192, 3, 256]⟩
abbrev S8192x3x3 : Shape := ⟨3, ![8192, 3, 3]⟩
abbrev S8192 : Shape := ⟨1, ![8192]⟩
abbrev S8192x1 : Shape := ⟨2, ![8192, 1]⟩
abbrev S8192x512 : Shape := ⟨2, ![8192, 512]⟩
abbrev S1x512 : Shape := ⟨2, ![1, 512]⟩
abbrev S1x2048x3 : Shape := ⟨3, ![1, 2048, 3]⟩
abbrev S8192x2048x3 : Shape := ⟨3, ![8192, 2048, 3]⟩
abbrev S8192x2048 : Shape := ⟨2, ![8192, 2048]⟩
abbrev S8192x3x512 : Shape := ⟨3, ![8192, 3, 512]⟩
abbrev S1x512x3 : Shape := ⟨3, ![1, 512, 3]⟩
abbrev S8192x512x3 : Shape := ⟨3, ![8192, 512, 3]⟩
abbrev S8192x3x1024 : Shape := ⟨3, ![8192, 3, 1024]⟩
abbrev S8192x1024 : Shape := ⟨2, ![8192, 1024]⟩
abbrev S8192x1536 : Shape := ⟨2, ![8192, 1536]⟩
abbrev S1x8192 : Shape := ⟨2, ![1, 8192]⟩
abbrev S4096x512 : Shape := ⟨2, ![4096, 512]⟩

abbrev nBuf : Space → Nat
  | .hbm => 294
  | .vmem => 0
  | .smem => 0
  | _ => 0

abbrev hbmTy0_0 (i : Nat) : BufTy := match i % 128 with
  | 0 => ⟨S8192x3, .f32⟩
  | 1 => ⟨S8192x256, .f32⟩
  | 2 => ⟨S2048x3, .f32⟩
  | 3 => ⟨S2048x512, .f32⟩
  | 4 => ⟨S512x3, .f32⟩
  | 5 => ⟨S512x1024, .f32⟩
  | 6 => ⟨S8192x3, .f32⟩
  | 7 => ⟨S256x512, .f32⟩
  | 8 => ⟨S512, .f32⟩
  | 9 => ⟨S512x512, .f32⟩
  | 10 => ⟨S512, .f32⟩
  | 11 => ⟨S1024x512, .f32⟩
  | 12 => ⟨S512, .f32⟩
  | 13 => ⟨S1536x512, .f32⟩
  | 14 => ⟨S512, .f32⟩
  | 15 => ⟨S512x512, .f32⟩
  | 16 => ⟨S512, .f32⟩
  | 17 => ⟨S512x512, .f32⟩
  | 18 => ⟨S512, .f32⟩
  | 19 => ⟨S512x512, .f32⟩
  | 20 => ⟨S512, .f32⟩
  | 21 => ⟨S8192x1x3, .f32⟩
  | 22 => ⟨S1x8192x3, .f32⟩
  | 23 => ⟨S8192x8192x3, .f32⟩
  | 24 => ⟨S8192x8192x3, .f32⟩
  | 25 => ⟨S8192x8192x3, .f32⟩
  | 26 => ⟨S8192x8192x3, .f32⟩
  | 27 => ⟨S_, .f32⟩
  | 28 => ⟨S8192x8192, .f32⟩
  | 29 => ⟨S8192x8192, .f32⟩
  | 30 => ⟨S8192x3, .f32⟩
  | 31 => ⟨S8192x3, .i32⟩
  | 32 => ⟨S_, .i32⟩
  | 33 => ⟨S8192x3, .i32⟩
  | 34 => ⟨S8192x3, .i1⟩
  | 35 => ⟨S_, .i32⟩
  | 36 => ⟨S8192x3, .i32⟩
  | 37 => ⟨S8192x3, .i32⟩
  | 38 => ⟨S8192x3, .i32⟩
  | 39 => ⟨S8192x3x1, .i32⟩
  | 40 => ⟨S8192x3x256, .f32⟩
  | 41 => ⟨S_, .i32⟩
  | 42 => ⟨S8192x3, .i32⟩
  | 43 => ⟨S8192x3, .i1⟩
  | 44 => ⟨S_, .i32⟩
  | 45 => ⟨S8192x3, .i32⟩
  | 46 => ⟨S8192x3, .i32⟩
  | 47 => ⟨S8192x3, .i32⟩
  | 48 => ⟨S8192x3x1, .i32⟩
  | 49 => ⟨S8192x3x3, .f32⟩
  | 50 => ⟨S8192x1x3, .f32⟩
  | 51 => ⟨S8192x3x3, .f32⟩
  | 52 => ⟨S8192x3x3, .f32⟩
  | 53 => ⟨S8192x3x3, .f32⟩
  | 54 => ⟨S_, .f32⟩
  | 55 => ⟨S8192x3, .f32⟩
  | 56 => ⟨S_, .f32⟩
  | 57 => ⟨S8192x3, .f32⟩
  | 58 => ⟨S8192x3, .f32⟩
  | 59 => ⟨S_, .f32⟩
  | 60 => ⟨S8192x3, .f32⟩
  | 61 => ⟨S8192x3, .f32⟩
  | 62 => ⟨S_, .f32⟩
  | 63 => ⟨S8192, .f32⟩
  | 64 => ⟨S8192x1, .f32⟩
  | 65 => ⟨S8192x3, .f32⟩
  | 66 => ⟨S8192x3, .f32⟩
  | 67 => ⟨S8192x3x1, .f32⟩
  | 68 => ⟨S8192x3x256, .f32⟩
  | 69 => ⟨S8192x3x256, .f32⟩
  | 70 => ⟨S_, .f32⟩
  | 71 => ⟨S8192x256, .f32⟩
  | 72 => ⟨S8192x512, .f32⟩
  | 73 => ⟨S1x512, .f32⟩
  | 74 => ⟨S8192x512, .f32⟩
  | 75 => ⟨S8192x512, .f32⟩
  | 76 => ⟨S8192x1x3, .f32⟩
  | 77 => ⟨S1x2048x3, .f32⟩
  | 78 => ⟨S8192x2048x3, .f32⟩
  | 79 => ⟨S8192x2048x3, .f32⟩
  | 80 => ⟨S8192x2048x3, .f32⟩
  | 81 => ⟨S8192x2048x3, .f32⟩
  | 82 => ⟨S_, .f32⟩
  | 83 => ⟨S8192x2048, .f32⟩
  | 84 => ⟨S8192x2048, .f32⟩
  | 85 => ⟨S8192x3, .f32⟩
  | 86 => ⟨S8192x3, .i32⟩
  | 87 => ⟨S_, .i32⟩
  | 88 => ⟨S8192x3, .i32⟩
  | 89 => ⟨S8192x3, .i1⟩
  | 90 => ⟨S_, .i32⟩
  | 91 => ⟨S8192x3, .i32⟩
  | 92 => ⟨S8192x3, .i32⟩
  | 93 => ⟨S8192x3, .i32⟩
  | 94 => ⟨S8192x3x1, .i32⟩
  | 95 => ⟨S8192x3x512, .f32⟩
  | 96 => ⟨S_, .i32⟩
  | 97 => ⟨S8192x3, .i32⟩
  | 98 => ⟨S8192x3, .i1⟩
  | 99 => ⟨S_, .i32⟩
  | 100 => ⟨S8192x3, .i32⟩
  | 101 => ⟨S8192x3, .i32⟩
  | 102 => ⟨S8192x3, .i32⟩
  | 103 => ⟨S8192x3x1, .i32⟩
  | 104 => ⟨S8192x3x3, .f32⟩
  | 105 => ⟨S8192x1x3, .f32⟩
  | 106 => ⟨S8192x3x3, .f32⟩
  | 107 => ⟨S8192x3x3, .f32⟩
  | 108 => ⟨S8192x3x3, .f32⟩
  | 109 => ⟨S_, .f32⟩
  | 110 => ⟨S8192x3, .f32⟩
  | 111 => ⟨S_, .f32⟩
  | 112 => ⟨S8192x3, .f32⟩
  | 113 => ⟨S8192x3, .f32⟩
  | 114 => ⟨S_, .f32⟩
  | 115 => ⟨S8192x3, .f32⟩
  | 116 => ⟨S8192x3, .f32⟩
  | 117 => ⟨S_, .f32⟩
  | 118 => ⟨S8192, .f32⟩
  | 119 => ⟨S8192x1, .f32⟩
  | 120 => ⟨S8192x3, .f32⟩
  | 121 => ⟨S8192x3, .f32⟩
  | 122 => ⟨S8192x3x1, .f32⟩
  | 123 => ⟨S8192x3x512, .f32⟩
  | 124 => ⟨S8192x3x512, .f32⟩
  | 125 => ⟨S_, .f32⟩
  | 126 => ⟨S8192x512, .f32⟩
  | 127 => ⟨S8192x512, .f32⟩
  | _ => ⟨S8192x3, .f32⟩

abbrev hbmTy0_1 (i : Nat) : BufTy := match i % 128 with
  | 0 => ⟨S1x512, .f32⟩
  | 1 => ⟨S8192x512, .f32⟩
  | 2 => ⟨S8192x512, .f32⟩
  | 3 => ⟨S8192x1x3, .f32⟩
  | 4 => ⟨S1x512x3, .f32⟩
  | 5 => ⟨S8192x512x3, .f32⟩
  | 6 => ⟨S8192x512x3, .f32⟩
  | 7 => ⟨S8192x512x3, .f32⟩
  | 8 => ⟨S8192x512x3, .f32⟩
  | 9 => ⟨S_, .f32⟩
  | 10 => ⟨S8192x512, .f32⟩
  | 11 => ⟨S8192x512, .f32⟩
  | 12 => ⟨S8192x3, .f32⟩
  | 13 => ⟨S8192x3, .i32⟩
  | 14 => ⟨S_, .i32⟩
  | 15 => ⟨S8192x3, .i32⟩
  | 16 => ⟨S8192x3, .i1⟩
  | 17 => ⟨S_, .i32⟩
  | 18 => ⟨S8192x3, .i32⟩
  | 19 => ⟨S8192x3, .i32⟩
  | 20 => ⟨S8192x3, .i32⟩
  | 21 => ⟨S8192x3x1, .i32⟩
  | 22 => ⟨S8192x3x1024, .f32⟩
  | 23 => ⟨S_, .i32⟩
  | 24 => ⟨S8192x3, .i32⟩
  | 25 => ⟨S8192x3, .i1⟩
  | 26 => ⟨S_, .i32⟩
  | 27 => ⟨S8192x3, .i32⟩
  | 28 => ⟨S8192x3, .i32⟩
  | 29 => ⟨S8192x3, .i32⟩
  | 30 => ⟨S8192x3x1, .i32⟩
  | 31 => ⟨S8192x3x3, .f32⟩
  | 32 => ⟨S8192x1x3, .f32⟩
  | 33 => ⟨S8192x3x3, .f32⟩
  | 34 => ⟨S8192x3x3, .f32⟩
  | 35 => ⟨S8192x3x3, .f32⟩
  | 36 => ⟨S_, .f32⟩
  | 37 => ⟨S8192x3, .f32⟩
  | 38 => ⟨S_, .f32⟩
  | 39 => ⟨S8192x3, .f32⟩
  | 40 => ⟨S8192x3, .f32⟩
  | 41 => ⟨S_, .f32⟩
  | 42 => ⟨S8192x3, .f32⟩
  | 43 => ⟨S8192x3, .f32⟩
  | 44 => ⟨S_, .f32⟩
  | 45 => ⟨S8192, .f32⟩
  | 46 => ⟨S8192x1, .f32⟩
  | 47 => ⟨S8192x3, .f32⟩
  | 48 => ⟨S8192x3, .f32⟩
  | 49 => ⟨S8192x3x1, .f32⟩
  | 50 => ⟨S8192x3x1024, .f32⟩
  | 51 => ⟨S8192x3x1024, .f32⟩
  | 52 => ⟨S_, .f32⟩
  | 53 => ⟨S8192x1024, .f32⟩
  | 54 => ⟨S8192x512, .f32⟩
  | 55 => ⟨S1x512, .f32⟩
  | 56 => ⟨S8192x512, .f32⟩
  | 57 => ⟨S8192x512, .f32⟩
  | 58 => ⟨S8192x1536, .f32⟩
  | 59 => ⟨S8192x512, .f32⟩
  | 60 => ⟨S1x512, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S8192x512, .f32⟩
  | 75 => ⟨S8192x512, .f32⟩
  | 76 => ⟨S_, .f32⟩
  | 77 => ⟨S_, .f32⟩
  | 78 => ⟨S_, .f32⟩
  | 79 => ⟨S_, .f32⟩
  | 80 => ⟨S8192, .i32⟩
  | 81 => ⟨S8192x1, .i32⟩
  | 82 => ⟨S1x8192, .i32⟩
  | 83 => ⟨S8192x8192, .i32⟩
  | 84 => ⟨S8192x8192, .i32⟩
  | 85 => ⟨S8192x8192, .i32⟩
  | 86 => ⟨S_, .i32⟩
  | 87 => ⟨S8192x8192, .i32⟩
  | 88 => ⟨S8192x8192, .i32⟩
  | 89 => ⟨S8192x8192, .f32⟩
  | 90 => ⟨S_, .f32⟩
  | 91 => ⟨S_, .f32⟩
  | 92 => ⟨S8192x8192, .f32⟩
  | 93 => ⟨S8192x8192, .f32⟩
  | 94 => ⟨S8192x8192, .f32⟩
  | 95 => ⟨S8192x512, .f32⟩
  | 96 => ⟨S2048x512, .f32⟩
  | 97 => ⟨S2048x512, .f32⟩
  | 98 => ⟨S1x512, .f32⟩
  | 99 => ⟨S2048x512, .f32⟩
  | 100 => ⟨S2048x512, .f32⟩
  | 101 => ⟨S_, .f32⟩
  | 102 => ⟨S2048x512, .f32⟩
  | 103 => ⟨S2048x512, .f32⟩
  | 104 => ⟨S2048x512, .f32⟩
  | 105 => ⟨S1x512, .f32⟩
  | 106 => ⟨S2048x512, .f32⟩
  | 107 => ⟨S2048x512, .f32⟩
  | 108 => ⟨S4096x512, .f32⟩
  | 109 => ⟨S4096x512, .f32⟩
  | 110 => ⟨S1x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S4096x512, .f32⟩
  | 117 => ⟨S1x512, .f32⟩
  | 118 => ⟨S4096x512, .f32⟩
  | 119 => ⟨S4096x512, .f32⟩
  | 120 => ⟨S2048x512, .f32⟩
  | 121 => ⟨S2048x512, .f32⟩
  | 122 => ⟨S1x512, .f32⟩
  | 123 => ⟨S2048x512, .f32⟩
  | 124 => ⟨S2048x512, .f32⟩
  | 125 => ⟨S_, .f32⟩
  | 126 => ⟨S2048x512, .f32⟩
  | 127 => ⟨S2048x512, .f32⟩
  | _ => ⟨S8192x3, .f32⟩

abbrev hbmTy0_2 (i : Nat) : BufTy := match i % 128 with
  | 0 => ⟨S2048x512, .f32⟩
  | 1 => ⟨S1x512, .f32⟩
  | 2 => ⟨S2048x512, .f32⟩
  | 3 => ⟨S2048x512, .f32⟩
  | 4 => ⟨S8192x512, .f32⟩
  | 5 => ⟨S_, .f32⟩
  | 6 => ⟨S_, .f32⟩
  | 7 => ⟨S_, .f32⟩
  | 8 => ⟨S_, .f32⟩
  | 9 => ⟨S8192, .i32⟩
  | 10 => ⟨S8192x1, .i32⟩
  | 11 => ⟨S1x8192, .i32⟩
  | 12 => ⟨S8192x8192, .i32⟩
  | 13 => ⟨S8192x8192, .i32⟩
  | 14 => ⟨S8192x8192, .i32⟩
  | 15 => ⟨S_, .i32⟩
  | 16 => ⟨S8192x8192, .i32⟩
  | 17 => ⟨S8192x8192, .i32⟩
  | 18 => ⟨S8192x8192, .f32⟩
  | 19 => ⟨S_, .f32⟩
  | 20 => ⟨S_, .f32⟩
  | 21 => ⟨S8192x8192, .f32⟩
  | 22 => ⟨S8192x8192, .f32⟩
  | 23 => ⟨S8192x8192, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S8192x512, .f32⟩
  | _ => ⟨S8192x3, .f32⟩

abbrev hbmTy (i : Nat) : BufTy := match i / 128 with
  | 0 => hbmTy0_0 i
  | 1 => hbmTy0_1 i
  | 2 => hbmTy0_2 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_values : Ref sig .tc := ⟨.hbm, 30, rfl⟩
abbrev main_indices : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_v30 : Ref sig .tc := ⟨.hbm, 61, rfl⟩
abbrev main_cst_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_values_9 : Ref sig .tc := ⟨.hbm, 85, rfl⟩
abbrev main_indices_10 : Ref sig .tc := ⟨.hbm, 86, rfl⟩
abbrev main_c_11 : Ref sig .tc := ⟨.hbm, 87, rfl⟩
abbrev main_v51 : Ref sig .tc := ⟨.hbm, 88, rfl⟩
abbrev main_v52 : Ref sig .tc := ⟨.hbm, 89, rfl⟩
abbrev main_c_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_13 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_15 : Ref sig .tc := ⟨.hbm, 109, rfl⟩
abbrev main_v69 : Ref sig .tc := ⟨.hbm, 110, rfl⟩
abbrev main_cst_16 : Ref sig .tc := ⟨.hbm, 111, rfl⟩
abbrev main_v70 : Ref sig .tc := ⟨.hbm, 112, rfl⟩
abbrev main_v71 : Ref sig .tc := ⟨.hbm, 113, rfl⟩
abbrev main_cst_17 : Ref sig .tc := ⟨.hbm, 114, rfl⟩
abbrev main_v72 : Ref sig .tc := ⟨.hbm, 115, rfl⟩
abbrev main_v73 : Ref sig .tc := ⟨.hbm, 116, rfl⟩
abbrev main_cst_18 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_19 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_20 : Ref sig .tc := ⟨.hbm, 137, rfl⟩
abbrev main_v92 : Ref sig .tc := ⟨.hbm, 138, rfl⟩
abbrev main_v93 : Ref sig .tc := ⟨.hbm, 139, rfl⟩
abbrev main_values_21 : Ref sig .tc := ⟨.hbm, 140, rfl⟩
abbrev main_indices_22 : Ref sig .tc := ⟨.hbm, 141, rfl⟩
abbrev main_c_23 : Ref sig .tc := ⟨.hbm, 142, rfl⟩
abbrev main_v94 : Ref sig .tc := ⟨.hbm, 143, rfl⟩
abbrev main_v95 : Ref sig .tc := ⟨.hbm, 144, rfl⟩
abbrev main_c_24 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_25 : Ref sig .tc := ⟨.hbm, 151, rfl⟩
abbrev main_v101 : Ref sig .tc := ⟨.hbm, 152, rfl⟩
abbrev main_v102 : Ref sig .tc := ⟨.hbm, 153, rfl⟩
abbrev main_c_26 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_27 : Ref sig .tc := ⟨.hbm, 164, rfl⟩
abbrev main_v112 : Ref sig .tc := ⟨.hbm, 165, rfl⟩
abbrev main_cst_28 : Ref sig .tc := ⟨.hbm, 166, rfl⟩
abbrev main_v113 : Ref sig .tc := ⟨.hbm, 167, rfl⟩
abbrev main_v114 : Ref sig .tc := ⟨.hbm, 168, rfl⟩
abbrev main_cst_29 : Ref sig .tc := ⟨.hbm, 169, rfl⟩
abbrev main_v115 : Ref sig .tc := ⟨.hbm, 170, rfl⟩
abbrev main_v116 : Ref sig .tc := ⟨.hbm, 171, rfl⟩
abbrev main_cst_30 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_31 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_32 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_33 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_34 : Ref sig .tc := ⟨.hbm, 204, rfl⟩
abbrev main_v145 : Ref sig .tc := ⟨.hbm, 205, rfl⟩
abbrev main_cst_35 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_c_36 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_37 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_call0_cst : Ref sig .tc := ⟨.hbm, 229, rfl⟩
abbrev main_call0_v0 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_call1_cst : Ref sig .tc := ⟨.hbm, 241, rfl⟩
abbrev main_call1_v0 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_call2_cst : Ref sig .tc := ⟨.hbm, 253, rfl⟩
abbrev main_call2_v0 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_38 : Ref sig .tc := ⟨.hbm, 261, rfl⟩
abbrev main_v192 : Ref sig .tc := ⟨.hbm, 262, rfl⟩
abbrev main_cst_39 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_c_40 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_cst_41 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_42 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_cst_43 : Ref sig .tc := ⟨.hbm, 286, rfl⟩
abbrev main_v212 : Ref sig .tc := ⟨.hbm, 287, rfl⟩
abbrev main_v213 : Ref sig .tc := ⟨.hbm, 288, rfl⟩
abbrev main_cst_44 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩

abbrev nD : Nat := 1
abbrev τ : Topo := Topo.v7x

variable {F : FTy → Type} [FloatOps F]
-- ==== Proof.KernelRun.lean ====
/-
  The whole run of the kernel: it ends, and every buffer a core holds ends at the contents the segments leave.
-/
module

public import proofs.«01_k».proof.Proof.Gen.KernelIdeal.Frame

@[expose] public section

set_option maxRecDepth 16384

noncomputable section

namespace Cert.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Every run ends with each buffer at the contents of the last segment's end. -/
theorem kernel_run : θ_run defs (onTc (τ := τ) (main (F := Ideal))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The result array and the arguments at the end of a run. -/
theorem kernel_ends : θ_run defs (onTc (τ := τ) (main (F := Ideal))) ⟨m, fun _ => 0, ρ⟩ (fun r => ∀ c : Dev nD,
    r.2.mem ((c.tc : Thread nD τ).loc main_v61) = W9 m ρ c (Proc.devRef .tc main_v61)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)) :=
  (θ_run defs _ _).mono (fun r h c => ⟨h c _ (mem_uc main_v61 (by decide)),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c),
    (h c _ (mem_uc main_arg12 (by decide))).trans (W9_main_arg12 m ρ c),
    (h c _ (mem_uc main_arg13 (by decide))).trans (W9_main_arg13 m ρ c),
    (h c _ (mem_uc main_arg14 (by decide))).trans (W9_main_arg14 m ρ c),
    (h c _ (mem_uc main_arg15 (by decide))).trans (W9_main_arg15 m ρ c),
    (h c _ (mem_uc main_arg16 (by decide))).trans (W9_main_arg16 m ρ c),
    (h c _ (mem_uc main_arg17 (by decide))).trans (W9_main_arg17 m ρ c),
    (h c _ (mem_uc main_arg18 (by decide))).trans (W9_main_arg18 m ρ c),
    (h c _ (mem_uc main_arg19 (by decide))).trans (W9_main_arg19 m ρ c),
    (h c _ (mem_uc main_arg20 (by decide))).trans (W9_main_arg20 m ρ c)⟩) (kernel_run m ρ)

end Cert.Value

end
-- ==== Proof.Spec.lean ====
/-
  The functions both programs compute, written on rows of extended reals and on plain index types: a squared distance of
  two points, the weights of the nearest three, the interpolated feature, and one row of the fused features.
-/
module

public import Idealize.ShloMosaic.Lib.Pointwise

@[expose] public section

noncomputable section

open Idealize.ShloMosaic

namespace Cert.Value

/-- The small number added to a squared distance before it is inverted. -/
def eps : EReal := Ideal.ofBits .f32 0x322BCC77#32

/-- The squared distance of two points of three coordinates, summed in the coordinates' order. -/
def sq3 (p q : Fin 3 → EReal) : EReal :=
  (p 0 - q 0) * (p 0 - q 0) + (p 1 - q 1) * (p 1 - q 1) + (p 2 - q 2) * (p 2 - q 2)

/-- The least of a row. -/
def least {n : ℕ} (D : Fin n → EReal) : EReal := Finset.univ.fold min ⊤ D

/-- The row with every entry that is its least one taken away (put to `⊤`). -/
def without {n : ℕ} (D : Fin n → EReal) : Fin n → EReal := fun s => if D s = least D then ⊤ else D s

/-- The third least of a row whose least three entries are distinct. -/
def third {n : ℕ} (D : Fin n → EReal) : EReal := least (without (without D))

/-- The weight of an entry: its inverse when it is one of the least three, zero otherwise. -/
def weight {n : ℕ} (D : Fin n → EReal) (s : Fin n) : EReal :=
  if D s ≤ third D then Ideal.div 1 (D s + eps) else 0

/-- The weighted sum of a feature over the whole row, times the inverse of the sum of the weights. -/
def blend {n : ℕ} (D F : Fin n → EReal) : EReal :=
  (∑ s, weight D s * F s) * Ideal.div 1 (∑ s, weight D s)

/-- The Gaussian error linear unit, through the error function. -/
def gelu (h : EReal) : EReal :=
  Ideal.ofBits .f32 0x3F000000#32 * h * (1 + Ideal.erf (h * Ideal.ofBits .f32 0x3F3504F3#32))

/-- A row times a matrix, plus a bias. -/
def affine {k n : ℕ} (x : Fin k → EReal) (W : Fin k → Fin n → EReal) (b : Fin n → EReal) (j : Fin n) : EReal :=
  (∑ i, x i * W i j) + b j

/-- The hidden layer of the fusion: three rows of 512 against the three thirds of a 1536-row matrix, plus a bias. -/
def hidden (e0 e1 e2 : Fin 512 → EReal) (W : Fin 1536 → Fin 512 → EReal) (b : Fin 512 → EReal) (j : Fin 512) : EReal :=
  (∑ i : Fin 512, e0 i * W ⟨i.val, by omega⟩ j) + (∑ i : Fin 512, e1 i * W ⟨512 + i.val, by omega⟩ j)
    + (∑ i : Fin 512, e2 i * W ⟨1024 + i.val, by omega⟩ j) + b j

/-- One row of the fused features from the three projected rows. -/
def fuse (e0 e1 e2 : Fin 512 → EReal) (W : Fin 1536 → Fin 512 → EReal) (b : Fin 512 → EReal)
    (V : Fin 512 → Fin 512 → EReal) (c : Fin 512 → EReal) : Fin 512 → EReal :=
  affine (fun i => gelu (hidden e0 e1 e2 W b i)) V c

/-- A feature mixed by a two-layer network with a rectifier between. -/
def mix (x : Fin 512 → EReal) (W : Fin 512 → Fin 512 → EReal) (b : Fin 512 → EReal)
    (V : Fin 512 → Fin 512 → EReal) (c : Fin 512 → EReal) : Fin 512 → EReal :=
  affine (fun i => max (affine x W b i) 0) V c

end Cert.Value

end
-- ==== Proof.Stages.lean ====
/-
  What the three transform kernels leave for one block, at an index, as formulas over the windows' contents.
-/
module

public import proofs.«01_k».proof.Proof.Gen.KernelIdeal.Frame
public import proofs.«01_k».proof.Proof.Spec

@[expose] public section

noncomputable section

open Idealize.ShloMosaic Idealize.SL.Sem
open Cert.KernelIdeal Cert.KernelIdeal.Gen

namespace Cert.Value

theorem zeros2 : (![0, 0] : Fin 2 → ℕ) = fun _ => 0 := by funext i; fin_cases i <;> rfl

/-- The first stage's real part: a product with the cosine table. -/
theorem stage1_re (x0 x1 : Vec Ideal S64x64 .f32) (x2 : Vec Ideal S64x8192 .f32) (i : Fin 64) (j : Fin 8192) :
    out1_3 x0 x1 x2 (ix2 i j) = ∑ a : Fin 64, x0 (ix2 i a) * x2 (ix2 a j) := by
  unfold out1_3
  rw [View.canon_unit_zero zeros2, show View.ld x0 r1_1 = x0 from View.ld_unit_zero zeros2 _ x0,
    show View.ld x2 r1_0 = x2 from View.ld_unit_zero zeros2 _ x2]
  pointwise [k1_pay2, k1_pay1, dot_S64x64_S64x8192_S64x8192_1_0_0_1_n_n]

/-- The first stage's imaginary part: minus a product with the sine table. -/
theorem stage1_im (x0 x1 : Vec Ideal S64x64 .f32) (x2 : Vec Ideal S64x8192 .f32) (i : Fin 64) (j : Fin 8192) :
    out1_4 x0 x1 x2 (ix2 i j) = 0 - ∑ a : Fin 64, x1 (ix2 i a) * x2 (ix2 a j) := by
  unfold out1_4
  rw [View.canon_unit_zero zeros2, show View.ld x1 r1_1 = x1 from View.ld_unit_zero zeros2 _ x1,
    show View.ld x2 r1_0 = x2 from View.ld_unit_zero zeros2 _ x2]
  pointwise [k1_pay3, k1_pay1, dot_S64x64_S64x8192_S64x8192_1_0_0_1_n_n]

/-- The second stage's spectrum at a row: the twiddled products with the two tables, summed. -/
def spectrum (C S : Fin 128 → Fin 128 → EReal) (tc ts : Fin 128 → EReal) (re im : Fin 128 → Fin 512 → EReal)
    (r : Fin 128) (c : Fin 512) : EReal :=
  (∑ b, C r b * (tc b * re b c + ts b * im b c)) + ∑ b, S r b * (tc b * im b c - ts b * re b c)

/-- The inverse of the second stage, real part, of mixed rows `y`. -/
def backRe (C S : Fin 128 → Fin 128 → EReal) (tc ts : Fin 128 → EReal) (y : Fin 128 → Fin 512 → EReal)
    (r : Fin 128) (c : Fin 512) : EReal :=
  tc r * (∑ b, C r b * y b c) + ts r * (0 - ∑ b, S r b * y b c)

/-- The inverse of the second stage, imaginary part, of mixed rows `y`. -/
def backIm (C S : Fin 128 → Fin 128 → EReal) (tc ts : Fin 128 → EReal) (y : Fin 128 → Fin 512 → EReal)
    (r : Fin 128) (c : Fin 512) : EReal :=
  tc r * (0 - ∑ b, S r b * y b c) - ts r * (∑ b, C r b * y b c)

section
variable (x0 x1 : Vec Ideal S128x128 .f32) (x2 x3 : Vec Ideal S128x512 .f32) (x4 x5 : Vec Ideal S128x1 .f32)
  (x6 : Vec Ideal S512x512 .f32) (x7 : Vec Ideal S1x512 .f32) (x8 : Vec Ideal S512x512 .f32) (x9 : Vec Ideal S1x512 .f32)

/-- The mixed rows of a second-stage block. -/
def mixedRows (r : Fin 128) (c : Fin 512) : EReal :=
  mix (spectrum (fun r b => x0 (ix2 r b)) (fun r b => x1 (ix2 r b)) (fun b => x4 (ix2 b 0)) (fun b => x5 (ix2 b 0))
      (fun b c => x2 (ix2 b c)) (fun b c => x3 (ix2 b c)) r)
    (fun k c => x6 (ix2 k c)) (fun c => x7 (ix2 0 c)) (fun k c => x8 (ix2 k c)) (fun c => x9 (ix2 0 c)) c

/-- The block's mixed rows, as the payloads hold them. -/
theorem mixed_row (r : Fin 128) (c : Fin 512) :
    k2_pay1 (k2_pay8 x2 x3 x4 x5 x0 x1 x6 x7 x8) x9 (ix2 r c) = mixedRows x0 x1 x2 x3 x4 x5 x6 x7 x8 x9 r c := by
  pointwise [k2_pay1, k2_pay8, k2_pay6, k2_pay7, dot_S128x128_S128x512_S128x512_1_0_0_1_n_n,
    dot_S128x512_S512x512_S128x512_1_0_0_1_n_n, mixedRows, mix, spectrum, affine]

/-- The second stage's real part. -/
theorem stage2_re (r : Fin 128) (c : Fin 512) :
    out2_10 x0 x1 x2 x3 x4 x5 x6 x7 x8 x9 (ix2 r c)
      = backRe (fun r b => x0 (ix2 r b)) (fun r b => x1 (ix2 r b)) (fun b => x4 (ix2 b 0)) (fun b => x5 (ix2 b 0))
          (mixedRows x0 x1 x2 x3 x4 x5 x6 x7 x8 x9) r c := by
  unfold out2_10 k2_pay11 k2_pay10 k2_pay9
  rw [View.canon_unit_zero zeros2, show View.ld x0 r2_2 = x0 from View.ld_unit_zero zeros2 _ x0,
    show View.ld x1 r2_2 = x1 from View.ld_unit_zero zeros2 _ x1, show View.ld x2 r2_0 = x2 from View.ld_unit_zero zeros2 _ x2,
    show View.ld x3 r2_0 = x3 from View.ld_unit_zero zeros2 _ x3, show View.ld x4 r2_1 = x4 from View.ld_unit_zero zeros2 _ x4,
    show View.ld x5 r2_1 = x5 from View.ld_unit_zero zeros2 _ x5, show View.ld x6 r2_3 = x6 from View.ld_unit_zero zeros2 _ x6,
    show View.ld x7 r2_4 = x7 from View.ld_unit_zero zeros2 _ x7, show View.ld x8 r2_3 = x8 from View.ld_unit_zero zeros2 _ x8,
    show View.ld x9 r2_4 = x9 from View.ld_unit_zero zeros2 _ x9]
  have hm := mixed_row x0 x1 x2 x3 x4 x5 x6 x7 x8 x9
  pointwise [k2_pay4, k2_pay2, k2_pay3, k2_pay6, k2_pay7, dot_S128x128_S128x512_S128x512_1_0_0_1_n_n, hm, backRe]

/-- The second stage's imaginary part. -/
theorem stage2_im (r : Fin 128) (c : Fin 512) :
    out2_11 x0 x1 x2 x3 x4 x5 x6 x7 x8 x9 (ix2 r c)
      = backIm (fun r b => x0 (ix2 r b)) (fun r b => x1 (ix2 r b)) (fun b => x4 (ix2 b 0)) (fun b => x5 (ix2 b 0))
          (mixedRows x0 x1 x2 x3 x4 x5 x6 x7 x8 x9) r c := by
  unfold out2_11 k2_pay11 k2_pay10 k2_pay9
  rw [View.canon_unit_zero zeros2, show View.ld x0 r2_2 = x0 from View.ld_unit_zero zeros2 _ x0,
    show View.ld x1 r2_2 = x1 from View.ld_unit_zero zeros2 _ x1, show View.ld x2 r2_0 = x2 from View.ld_unit_zero zeros2 _ x2,
    show View.ld x3 r2_0 = x3 from View.ld_unit_zero zeros2 _ x3, show View.ld x4 r2_1 = x4 from View.ld_unit_zero zeros2 _ x4,
    show View.ld x5 r2_1 = x5 from View.ld_unit_zero zeros2 _ x5, show View.ld x6 r2_3 = x6 from View.ld_unit_zero zeros2 _ x6,
    show View.ld x7 r2_4 = x7 from View.ld_unit_zero zeros2 _ x7, show View.ld x8 r2_3 = x8 from View.ld_unit_zero zeros2 _ x8,
    show View.ld x9 r2_4 = x9 from View.ld_unit_zero zeros2 _ x9]
  have hm := mixed_row x0 x1 x2 x3 x4 x5 x6 x7 x8 x9
  pointwise [k2_pay5, k2_pay2, k2_pay3, k2_pay6, k2_pay7, dot_S128x128_S128x512_S128x512_1_0_0_1_n_n, hm, backIm]

end

/-- The last stage: the inverse transform's last products, scaled, gate the features. -/
theorem stage3 (x0 x1 : Vec Ideal S64x64 .f32) (x2 x3 x4 : Vec Ideal S64x8192 .f32) (i : Fin 64) (j : Fin 8192) :
    out3_5 x0 x1 x2 x3 x4 (ix2 i j)
      = x4 (ix2 i j) * (1 + Ideal.logistic (((∑ a : Fin 64, x0 (ix2 i a) * x2 (ix2 a j))
          + ∑ a : Fin 64, x1 (ix2 i a) * x3 (ix2 a j)) * Ideal.ofBits .f32 0x39000000#32)) := by
  unfold out3_5
  rw [View.canon_unit_zero zeros2, show View.ld x0 r3_0 = x0 from View.ld_unit_zero zeros2 _ x0,
    show View.ld x1 r3_0 = x1 from View.ld_unit_zero zeros2 _ x1, show View.ld x2 r3_1 = x2 from View.ld_unit_zero zeros2 _ x2,
    show View.ld x3 r3_1 = x3 from View.ld_unit_zero zeros2 _ x3, show View.ld x4 r3_1 = x4 from View.ld_unit_zero zeros2 _ x4]
  pointwise [k3_pay1, dot_S64x64_S64x8192_S64x8192_1_0_0_1_n_n]

end Cert.Value

end
-- ==== Proof.Middle.lean ====
/-
  What the middle transform kernel leaves in its output arrays, as formulas over the contents its input arrays hold at entry.
-/
module

public import proofs.«01_k».proof.Proof.Stages
public import Idealize.ShloMosaic.Lib.Pipeline.ValueKit

@[expose] public section

noncomputable section

open Idealize.ShloMosaic Idealize.SL.Sem
open Cert.KernelIdeal Cert.KernelIdeal.Gen

namespace Cert.Value

variable (V : (c : Dev nD) → (b : Ref sig .tc) → Buf (Elt Ideal) ((c.tc : Thread nD τ).loc b))

/-! ### The middle transform kernel -/

theorem at2_0 : ∀ t : Fin cfg2.N, win2_0.index t = ![0, 0] := (by decide +kernel : ∀ t : Fin grid2.N, _)
theorem at2_1 : ∀ t : Fin cfg2.N, win2_1.index t = ![0, 0] := (by decide +kernel : ∀ t : Fin grid2.N, _)
theorem at2_2 : ∀ t : Fin cfg2.N, win2_2.index t = ![(grid2.coords t 0).val, 0] := (by decide +kernel : ∀ t : Fin grid2.N, _)
theorem at2_3 : ∀ t : Fin cfg2.N, win2_3.index t = ![(grid2.coords t 0).val, 0] := (by decide +kernel : ∀ t : Fin grid2.N, _)
theorem at2_4 : ∀ t : Fin cfg2.N, win2_4.index t = ![(grid2.coords t 0).val, 0] := (by decide +kernel : ∀ t : Fin grid2.N, _)
theorem at2_5 : ∀ t : Fin cfg2.N, win2_5.index t = ![(grid2.coords t 0).val, 0] := (by decide +kernel : ∀ t : Fin grid2.N, _)
theorem at2_6 : ∀ t : Fin cfg2.N, win2_6.index t = ![0, 0] := (by decide +kernel : ∀ t : Fin grid2.N, _)
theorem at2_7 : ∀ t : Fin cfg2.N, win2_7.index t = ![0, 0] := (by decide +kernel : ∀ t : Fin grid2.N, _)
theorem at2_8 : ∀ t : Fin cfg2.N, win2_8.index t = ![0, 0] := (by decide +kernel : ∀ t : Fin grid2.N, _)
theorem at2_9 : ∀ t : Fin cfg2.N, win2_9.index t = ![0, 0] := (by decide +kernel : ∀ t : Fin grid2.N, _)
theorem at2_10 : ∀ t : Fin cfg2.N, win2_10.index t = ![(grid2.coords t 0).val, 0] := (by decide +kernel : ∀ t : Fin grid2.N, _)
theorem at2_11 : ∀ t : Fin cfg2.N, win2_11.index t = ![(grid2.coords t 0).val, 0] := (by decide +kernel : ∀ t : Fin grid2.N, _)

/-- Row `b` of the `a`-th group of 128 rows. -/
def rowAt (a : Fin 64) (b : Fin 128) : Fin 8192 := ⟨a.val * 128 + b.val, by omega⟩
/-- The group of a row, and the row's place in its group. -/
def groupOf (r : Fin 8192) : Fin 64 := ⟨r.val / 128, by omega⟩
def placeOf (r : Fin 8192) : Fin 128 := ⟨r.val % 128, by omega⟩

section
variable (C S : Vec Ideal S128x128 .f32) (re im : Vec Ideal S8192x512 .f32) (tc ts : Vec Ideal S8192x1 .f32)
  (W : Vec Ideal S512x512 .f32) (b : Vec Ideal S1x512 .f32) (W' : Vec Ideal S512x512 .f32) (b' : Vec Ideal S1x512 .f32)

/-- The mixed rows of a group. -/
def mixedGroup (k : Fin 64) (r : Fin 128) (j : Fin 512) : EReal :=
  mix (spectrum (fun r b => C (ix2 r b)) (fun r b => S (ix2 r b)) (fun b => tc (ix2 (rowAt k b) 0)) (fun b => ts (ix2 (rowAt k b) 0))
      (fun b c => re (ix2 (rowAt k b) c)) (fun b c => im (ix2 (rowAt k b) c)) r)
    (fun k c => W (ix2 k c)) (fun c => b (ix2 0 c)) (fun k c => W' (ix2 k c)) (fun c => b' (ix2 0 c)) j

/-- The inverse of the second stage over the whole array, real part. -/
def backReArray : Vec Ideal S8192x512 .f32 := fun i =>
  backRe (fun r b => C (ix2 r b)) (fun r b => S (ix2 r b)) (fun b => tc (ix2 (rowAt (groupOf (i 0)) b) 0))
    (fun b => ts (ix2 (rowAt (groupOf (i 0)) b) 0)) (mixedGroup C S re im tc ts W b W' b' (groupOf (i 0))) (placeOf (i 0)) (i 1)

/-- The inverse of the second stage over the whole array, imaginary part. -/
def backImArray : Vec Ideal S8192x512 .f32 := fun i =>
  backIm (fun r b => C (ix2 r b)) (fun r b => S (ix2 r b)) (fun b => tc (ix2 (rowAt (groupOf (i 0)) b) 0))
    (fun b => ts (ix2 (rowAt (groupOf (i 0)) b) 0)) (mixedGroup C S re im tc ts W b W' b' (groupOf (i 0))) (placeOf (i 0)) (i 1)

/-- Blocks that are the arrays' rows of group `k` give the array's real part there. -/
theorem backRe_of_blocks (x0 x1 : Vec Ideal S128x128 .f32) (x2 x3 : Vec Ideal S128x512 .f32) (x4 x5 : Vec Ideal S128x1 .f32)
    (x6 : Vec Ideal S512x512 .f32) (x7 : Vec Ideal S1x512 .f32) (x8 : Vec Ideal S512x512 .f32) (x9 : Vec Ideal S1x512 .f32)
    (k : Fin 64) (r : Fin 128) (j : Fin 512) (h0 : x0 = C) (h1 : x1 = S)
    (h2 : ∀ b j, x2 (ix2 b j) = re (ix2 (rowAt k b) j)) (h3 : ∀ b j, x3 (ix2 b j) = im (ix2 (rowAt k b) j))
    (h4 : ∀ b, x4 (ix2 b 0) = tc (ix2 (rowAt k b) 0)) (h5 : ∀ b, x5 (ix2 b 0) = ts (ix2 (rowAt k b) 0))
    (h6 : x6 = W) (h7 : x7 = b) (h8 : x8 = W') (h9 : x9 = b') (i : S8192x512.Idx)
    (hk : groupOf (i 0) = k) (hr : placeOf (i 0) = r) (hj : (i 1 : Fin 512) = j) :
    backRe (fun r b => x0 (ix2 r b)) (fun r b => x1 (ix2 r b)) (fun b => x4 (ix2 b 0)) (fun b => x5 (ix2 b 0))
        (mixedRows x0 x1 x2 x3 x4 x5 x6 x7 x8 x9) r j
      = backReArray C S re im tc ts W b W' b' i := by
  have hm : mixedRows x0 x1 x2 x3 x4 x5 x6 x7 x8 x9 = mixedGroup C S re im tc ts W b W' b' k := by
    funext r j
    unfold mixedRows mixedGroup
    simp only [h0, h1, h2, h3, h4, h5, h6, h7, h8, h9]
  have hj' : i 1 = j := hj
  unfold backReArray
  rw [hm, hk, hr, hj']
  simp only [h0, h1, h4, h5]

/-- Blocks that are the arrays' rows of group `k` give the array's imaginary part there. -/
theorem backIm_of_blocks (x0 x1 : Vec Ideal S128x128 .f32) (x2 x3 : Vec Ideal S128x512 .f32) (x4 x5 : Vec Ideal S128x1 .f32)
    (x6 : Vec Ideal S512x512 .f32) (x7 : Vec Ideal S1x512 .f32) (x8 : Vec Ideal S512x512 .f32) (x9 : Vec Ideal S1x512 .f32)
    (k : Fin 64) (r : Fin 128) (j : Fin 512) (h0 : x0 = C) (h1 : x1 = S)
    (h2 : ∀ b j, x2 (ix2 b j) = re (ix2 (rowAt k b) j)) (h3 : ∀ b j, x3 (ix2 b j) = im (ix2 (rowAt k b) j))
    (h4 : ∀ b, x4 (ix2 b 0) = tc (ix2 (rowAt k b) 0)) (h5 : ∀ b, x5 (ix2 b 0) = ts (ix2 (rowAt k b) 0))
    (h6 : x6 = W) (h7 : x7 = b) (h8 : x8 = W') (h9 : x9 = b') (i : S8192x512.Idx)
    (hk : groupOf (i 0) = k) (hr : placeOf (i 0) = r) (hj : (i 1 : Fin 512) = j) :
    backIm (fun r b => x0 (ix2 r b)) (fun r b => x1 (ix2 r b)) (fun b => x4 (ix2 b 0)) (fun b => x5 (ix2 b 0))
        (mixedRows x0 x1 x2 x3 x4 x5 x6 x7 x8 x9) r j
      = backImArray C S re im tc ts W b W' b' i := by
  have hm : mixedRows x0 x1 x2 x3 x4 x5 x6 x7 x8 x9 = mixedGroup C S re im tc ts W b W' b' k := by
    funext r j
    unfold mixedRows mixedGroup
    simp only [h0, h1, h2, h3, h4, h5, h6, h7, h8, h9]
  have hj' : i 1 = j := hj
  unfold backImArray
  rw [hm, hk, hr, hj']
  simp only [h0, h1, h4, h5]
end

/-! Each input block, as rows of its array. -/

theorem blk2_0 (c : Dev nD) (t : Fin cfg2.N) : iblk2 V c 0 t = V c main_v45 := by blk_ext! [iblk2, at2_0]
theorem blk2_1 (c : Dev nD) (t : Fin cfg2.N) : iblk2 V c 1 t = V c main_v46 := by blk_ext! [iblk2, at2_1]
theorem blk2_2 (c : Dev nD) (t : Fin cfg2.N) (b : Fin 128) (j : Fin 512) :
    (iblk2 V c 2 t : Vec Ideal S128x512 .f32) (ix2 b j) = (V c main_v53 : Vec Ideal S8192x512 .f32) (ix2 (rowAt (grid2.coords t 0) b) j) := by
  blk_ext [iblk2, at2_2, rowAt]
theorem blk2_3 (c : Dev nD) (t : Fin cfg2.N) (b : Fin 128) (j : Fin 512) :
    (iblk2 V c 3 t : Vec Ideal S128x512 .f32) (ix2 b j) = (V c main_v54 : Vec Ideal S8192x512 .f32) (ix2 (rowAt (grid2.coords t 0) b) j) := by
  blk_ext [iblk2, at2_3, rowAt]
theorem blk2_4 (c : Dev nD) (t : Fin cfg2.N) (b : Fin 128) :
    (iblk2 V c 4 t : Vec Ideal S128x1 .f32) (ix2 b 0) = (V c main_v48 : Vec Ideal S8192x1 .f32) (ix2 (rowAt (grid2.coords t 0) b) 0) := by
  blk_ext [iblk2, at2_4, rowAt]
theorem blk2_5 (c : Dev nD) (t : Fin cfg2.N) (b : Fin 128) :
    (iblk2 V c 5 t : Vec Ideal S128x1 .f32) (ix2 b 0) = (V c main_v50 : Vec Ideal S8192x1 .f32) (ix2 (rowAt (grid2.coords t 0) b) 0) := by
  blk_ext [iblk2, at2_5, rowAt]
theorem blk2_6 (c : Dev nD) (t : Fin cfg2.N) : iblk2 V c 6 t = V c main_arg17 := by blk_ext! [iblk2, at2_6]
theorem blk2_7 (c : Dev nD) (t : Fin cfg2.N) : iblk2 V c 7 t = V c main_v55 := by blk_ext! [iblk2, at2_7]
theorem blk2_8 (c : Dev nD) (t : Fin cfg2.N) : iblk2 V c 8 t = V c main_arg19 := by blk_ext! [iblk2, at2_8]
theorem blk2_9 (c : Dev nD) (t : Fin cfg2.N) : iblk2 V c 9 t = V c main_v56 := by blk_ext! [iblk2, at2_9]

/-- What the middle transform kernel leaves, real part. -/
theorem array2_re (c : Dev nD) : (dat2 V c).arrAt 10 cfg2.N
    = backReArray (V c main_v45) (V c main_v46) (V c main_v53) (V c main_v54) (V c main_v48) (V c main_v50)
        (V c main_arg17) (V c main_v55) (V c main_arg19) (V c main_v56) := by
  refine (dat2 V c).arrAt_eq_of_covers 10 _ (by decide +kernel) fun t _ y => ?_
  blk_simp
  rw [after2_10]
  refine (congrArg _ (eq_ix2 y)).trans ((stage2_re _ _ _ _ _ _ _ _ _ _ (y 0) (y 1)).trans ?_)
  refine backRe_of_blocks _ _ _ _ _ _ _ _ _ _ _ _ _ _ _ _ _ _ _ _ (grid2.coords t 0) _ _ (blk2_0 V c t) (blk2_1 V c t) (blk2_2 V c t) (blk2_3 V c t) (blk2_4 V c t) (blk2_5 V c t) (blk2_6 V c t) (blk2_7 V c t) (blk2_8 V c t) (blk2_9 V c t) _ ?_ ?_ ?_
  · apply Fin.ext; blk_simp [groupOf, at2_10]; idx_bounds y; dsimp only; omega
  · apply Fin.ext; blk_simp [placeOf, at2_10]; idx_bounds y; dsimp only; omega
  · apply Fin.ext; blk_simp [at2_10]

/-- What the middle transform kernel leaves, imaginary part. -/
theorem array2_im (c : Dev nD) : (dat2 V c).arrAt 11 cfg2.N
    = backImArray (V c main_v45) (V c main_v46) (V c main_v53) (V c main_v54) (V c main_v48) (V c main_v50)
        (V c main_arg17) (V c main_v55) (V c main_arg19) (V c main_v56) := by
  refine (dat2 V c).arrAt_eq_of_covers 11 _ (by decide +kernel) fun t _ y => ?_
  blk_simp
  rw [after2_11]
  refine (congrArg _ (eq_ix2 y)).trans ((stage2_im _ _ _ _ _ _ _ _ _ _ (y 0) (y 1)).trans ?_)
  refine backIm_of_blocks _ _ _ _ _ _ _ _ _ _ _ _ _ _ _ _ _ _ _ _ (grid2.coords t 0) _ _ (blk2_0 V c t) (blk2_1 V c t) (blk2_2 V c t) (blk2_3 V c t) (blk2_4 V c t) (blk2_5 V c t) (blk2_6 V c t) (blk2_7 V c t) (blk2_8 V c t) (blk2_9 V c t) _ ?_ ?_ ?_
  · apply Fin.ext; blk_simp [groupOf, at2_11]; idx_bounds y; dsimp only; omega
  · apply Fin.ext; blk_simp [placeOf, at2_11]; idx_bounds y; dsimp only; omega
  · apply Fin.ext; blk_simp [at2_11]

end Cert.Value

end
-- ==== Proof.Fourier.lean ====
/-
  The cosine sums of a sequence of length 8192 = 64 · 128, computed through two shorter transforms with a twiddle
  between them: plain real arithmetic.
-/
module

public import proofs.«01_k».proof.Proof.Spec

@[expose] public section

noncomputable section

open Real

namespace Cert.Fourier

/-- The three angles: of the short transform over 64, of the short transform over 128, and of the twiddle. -/
def outer (a k : ℕ) : ℝ := (a * k : ℕ) * (2 * π / 64)
def inner (b k : ℕ) : ℝ := (b * k : ℕ) * (2 * π / 128)
def twist (k b : ℕ) : ℝ := (k * b : ℕ) * (2 * π / 8192)

/-- A whole product's angle splits into the three, up to whole turns. -/
theorem cos_split (a b k l : ℕ) :
    cos (((a * 128 + b) * (k + 64 * l) : ℕ) * (2 * π / 8192)) = cos (outer a k + twist k b + inner b l) := by
  have h : (((a * 128 + b) * (k + 64 * l) : ℕ) : ℝ) * (2 * π / 8192)
      = outer a k + twist k b + inner b l + (a * l : ℕ) * (2 * π) := by
    unfold outer twist inner; push_cast; ring
  rw [h, cos_add_nat_mul_two_pi]

/-- One term of the expansion. -/
theorem cos_expand (A T B f : ℝ) :
    cos B * (cos T * (cos A * f) + sin T * (0 - sin A * f)) + sin B * (cos T * (0 - sin A * f) - sin T * (cos A * f))
      = cos (A + T + B) * f := by
  rw [cos_add, cos_add, sin_add]; ring

/-- Forward: the two-stage transform gives the cosine sum. -/
theorem forward (f : Fin 64 → Fin 128 → ℝ) (k : Fin 64) (l : Fin 128) :
    (∑ b : Fin 128, cos (inner l b) * (cos (twist k b) * (∑ a : Fin 64, cos (outer k a) * f a b)
        + sin (twist k b) * (0 - ∑ a : Fin 64, sin (outer k a) * f a b)))
      + (∑ b : Fin 128, sin (inner l b) * (cos (twist k b) * (0 - ∑ a : Fin 64, sin (outer k a) * f a b)
        - sin (twist k b) * (∑ a : Fin 64, cos (outer k a) * f a b)))
      = ∑ a : Fin 64, ∑ b : Fin 128, cos (((a.val * 128 + b.val) * (k.val + 64 * l.val) : ℕ) * (2 * π / 8192)) * f a b := by
  rw [Finset.sum_comm, ← Finset.sum_add_distrib]
  refine Finset.sum_congr rfl fun b _ => ?_
  simp only [zero_sub, ← Finset.sum_neg_distrib, Finset.mul_sum, ← Finset.sum_add_distrib, ← Finset.sum_sub_distrib]
  refine Finset.sum_congr rfl fun a _ => ?_
  rw [cos_split, ← cos_expand]
  have h1 : outer k a = outer a k := by unfold outer; rw [mul_comm k.val]
  have h2 : inner l b = inner b l := by unfold inner; rw [mul_comm l.val]
  rw [h1, h2]; ring

/-- Backward: the same transforms in the other order give the cosine sum of a spectrum `e k l` at frequency `k + 64 l`. -/
theorem backward (e : Fin 64 → Fin 128 → ℝ) (a : Fin 64) (b : Fin 128) :
    (∑ k : Fin 64, cos (outer a k) * (cos (twist k b) * (∑ l : Fin 128, cos (inner b l) * e k l)
        + sin (twist k b) * (0 - ∑ l : Fin 128, sin (inner b l) * e k l)))
      + (∑ k : Fin 64, sin (outer a k) * (cos (twist k b) * (0 - ∑ l : Fin 128, sin (inner b l) * e k l)
        - sin (twist k b) * (∑ l : Fin 128, cos (inner b l) * e k l)))
      = ∑ k : Fin 64, ∑ l : Fin 128, cos (((a.val * 128 + b.val) * (k.val + 64 * l.val) : ℕ) * (2 * π / 8192)) * e k l := by
  rw [← Finset.sum_add_distrib]
  refine Finset.sum_congr rfl fun k _ => ?_
  simp only [zero_sub, ← Finset.sum_neg_distrib, Finset.mul_sum, ← Finset.sum_add_distrib, ← Finset.sum_sub_distrib]
  refine Finset.sum_congr rfl fun l _ => ?_
  rw [cos_split, show outer a k + twist k b + inner b l = inner b l + twist k b + outer a k by ring, ← cos_expand]
  ring

/-- Taking the remainder of the product by 8192 does not change the cosine. -/
theorem cos_mod (n : ℕ) : cos ((n % 8192 : ℕ) * (2 * π / 8192)) = cos ((n : ℕ) * (2 * π / 8192)) := by
  have h : ((n : ℕ) : ℝ) * (2 * π / 8192) = (n % 8192 : ℕ) * (2 * π / 8192) + (n / 8192 : ℕ) * (2 * π) := by
    have := Nat.mod_add_div n 8192
    have h2 : ((n : ℕ) : ℝ) = (n % 8192 : ℕ) + 8192 * (n / 8192 : ℕ) := by exact_mod_cast this.symm
    rw [h2]; push_cast
    have h3 : ((n % 8192 : ℕ) + 8192 * (n / 8192) : ℕ) % 8192 = n % 8192 := by omega
    ring
  rw [h, cos_add_nat_mul_two_pi]

/-- A sum over 8192 rows by groups of 128. -/
theorem sum_rows (g : ℕ → ℝ) : ∑ t : Fin 8192, g t.val = ∑ a : Fin 64, ∑ b : Fin 128, g (a.val * 128 + b.val) := by
  rw [← Fintype.sum_prod_type' (fun (a : Fin 64) (b : Fin 128) => g (a.val * 128 + b.val))]
  refine Fintype.sum_equiv (finProdFinEquiv (m := 64) (n := 128)).symm _ _ fun t => ?_
  congr 1
  simp [finProdFinEquiv, Fin.divNat, Fin.modNat]; omega

/-- A sum over 8192 frequencies, low part first. -/
theorem sum_freqs (g : ℕ → ℝ) : ∑ t : Fin 8192, g t.val = ∑ k : Fin 64, ∑ l : Fin 128, g (k.val + 64 * l.val) := by
  rw [Finset.sum_comm, ← Fintype.sum_prod_type' (fun (l : Fin 128) (k : Fin 64) => g (k.val + 64 * l.val))]
  refine Fintype.sum_equiv (finProdFinEquiv (m := 128) (n := 64)).symm _ _ fun t => ?_
  congr 1
  simp [finProdFinEquiv, Fin.divNat, Fin.modNat]; omega

end Cert.Fourier

end
-- ==== Proof.Angles.lean ====
/-
  The tables' entries at the ideal carrier are the cosines and sines of the plain real angles.
-/
module

public import proofs.«01_k».proof.Proof.Spec
public import proofs.«01_k».proof.Proof.Fourier
public import Idealize.ShloMosaic.Lib.IdealHost

@[expose] public section

noncomputable section

open Idealize.ShloMosaic Idealize.SL.Sem

namespace Cert.Value

theorem word_two : Ideal.ofBits .f32 0x40000000#32 = ((2 : ℝ) : EReal) := by
  simp [Ideal.ofBits, Ideal.ieee, -EReal.coe_mul, -EReal.coe_neg]; norm_num
theorem word_neg_one : Ideal.ofBits .f32 0xBF800000#32 = ((-1 : ℝ) : EReal) := by
  simp [Ideal.ofBits, Ideal.ieee, -EReal.coe_mul, -EReal.coe_neg]; norm_num
theorem word_64 : Ideal.ofBits .f32 0x42800000#32 = ((64 : ℝ) : EReal) := by
  simp [Ideal.ofBits, Ideal.ieee, -EReal.coe_mul, -EReal.coe_neg]; norm_num
theorem word_128 : Ideal.ofBits .f32 0x43000000#32 = ((128 : ℝ) : EReal) := by
  simp [Ideal.ofBits, Ideal.ieee, -EReal.coe_mul, -EReal.coe_neg]; norm_num
theorem word_8192 : Ideal.ofBits .f32 0x46000000#32 = ((8192 : ℝ) : EReal) := by
  simp [Ideal.ofBits, Ideal.ieee, -EReal.coe_mul, -EReal.coe_neg]; norm_num
theorem word_inv_8192 : Ideal.ofBits .f32 0x39000000#32 = ((1 / 8192 : ℝ) : EReal) := by
  simp [Ideal.ofBits, Ideal.ieee, -EReal.coe_mul, -EReal.coe_neg]; norm_num

/-- A full turn, as the tables take it: twice the arccosine of minus one. -/
theorem turn_eq : Ideal.ofBits .f32 0x40000000#32 * Ideal.acos (Ideal.ofBits .f32 0xBF800000#32) = ((2 * Real.pi : ℝ) : EReal) := by
  rw [word_two, word_neg_one, Ideal.acos_coe, if_pos (by norm_num), Real.arccos_neg_one, ← EReal.coe_mul]

/-- An angle of a table over a divisor `d`. -/
theorem angle_eq (n : BitVec 32) (v : ℕ) (hn : n.toInt = v) (w : BitVec 32) (d : ℝ) (hw : Ideal.ofBits .f32 w = (d : EReal)) (hd : d ≠ 0) :
    (FloatOps.sitofp .f32 n : Ideal .f32) * Ideal.div (Ideal.ofBits .f32 0x40000000#32 * Ideal.acos (Ideal.ofBits .f32 0xBF800000#32))
      (Ideal.ofBits .f32 w) = (((v : ℝ) * (2 * Real.pi / d) : ℝ) : EReal) := by
  rw [turn_eq, hw]
  have h0 : ((d : ℝ) : EReal) ≠ 0 := by exact_mod_cast hd
  rw [show Ideal.div ((2 * Real.pi : ℝ) : EReal) (d : EReal) = ((2 * Real.pi / d : ℝ) : EReal) by
    unfold Ideal.div; rw [if_neg h0, ← EReal.coe_inv, ← EReal.coe_mul, div_eq_mul_inv]]
  rw [show (FloatOps.sitofp .f32 n : Ideal .f32) = ((n.toInt : ℝ) : EReal) from rfl, hn, ← EReal.coe_mul]
  norm_num

/-- The word of a small number, signed. -/
theorem toInt_small (n : ℕ) (h : n < 2 ^ 31) : (BitVec.ofNat 32 n).toInt = n := by
  have h1 : (BitVec.ofNat 32 n).toNat = n := by rw [BitVec.toNat_ofNat]; exact Nat.mod_eq_of_lt (by omega)
  rw [BitVec.toInt_eq_toNat_of_lt (by rw [h1]; omega), h1]

/-- Products of small words. -/
theorem muli_small (a b : ℕ) : IntOp.muli (BitVec.ofNat 32 a) (BitVec.ofNat 32 b) = BitVec.ofNat 32 (a * b) := by
  show BitVec.ofNat 32 a * BitVec.ofNat 32 b = _
  exact (BitVec.ofNat_mul _ _).symm

theorem corner_false (n d : ℕ) (hn : n < 2 ^ 31) (hd : 0 < d) (hd' : d < 2 ^ 31) :
    ¬ IntOp.SDivCorner (BitVec.ofNat 32 n) (BitVec.ofNat 32 d) := by
  unfold IntOp.SDivCorner
  have hd2 := toInt_small d hd'
  have hn2 := toInt_small n hn
  rintro (h | ⟨h, -⟩)
  · rw [h] at hd2; simp at hd2; omega
  · rw [h] at hn2; rw [show (BitVec.intMin 32).toInt = -2147483648 by decide] at hn2; omega

/-- Quotients and remainders of small words. -/
theorem divsi_small (n d : ℕ) (hn : n < 2 ^ 31) (hd : 0 < d) (hd' : d < 2 ^ 31) :
    IntOp.divsi .host (BitVec.ofNat 32 n) (BitVec.ofNat 32 d) = BitVec.ofNat 32 (n / d) := by
  unfold IntOp.divsi
  rw [if_neg (corner_false n d hn hd hd')]
  apply BitVec.eq_of_toInt_eq
  rw [BitVec.toInt_sdiv_of_ne_or_ne, toInt_small n hn, toInt_small d hd', toInt_small]
  · rfl
  · exact lt_of_le_of_lt (Nat.div_le_self _ _) hn
  · right; intro h; have := congrArg BitVec.toInt h; rw [toInt_small d hd'] at this; simp at this

theorem remsi_small (n d : ℕ) (hn : n < 2 ^ 31) (hd : 0 < d) (hd' : d < 2 ^ 31) :
    IntOp.remsi .host (BitVec.ofNat 32 n) (BitVec.ofNat 32 d) = BitVec.ofNat 32 (n % d) := by
  unfold IntOp.remsi
  rw [if_neg (corner_false n d hn hd hd')]
  apply BitVec.eq_of_toInt_eq
  rw [BitVec.toInt_srem, toInt_small n hn, toInt_small d hd', toInt_small]
  · rfl
  · exact lt_of_le_of_lt (Nat.mod_le _ _) hn

end Cert.Value

end
-- ==== Proof.HostReads.lean ====
/-
  What the host lines of the kernel leave: the transposed coordinates, the reshaped vectors, the tables of cosines and
  sines, and the two foldings of the features, 8192 rows of 512 against 64 rows of 128 times 512.
-/
module

public import proofs.«01_k».proof.Proof.Gen.KernelIdeal.Frame
public import proofs.«01_k».proof.Proof.Middle
public import proofs.«01_k».proof.Proof.Angles
public import Idealize.ShloMosaic.Lib.Pointwise
public import Idealize.ShloMosaic.Lib.Claim

@[expose] public section

noncomputable section

open Idealize.ShloMosaic Idealize.SL.Sem
open Cert.KernelIdeal Cert.KernelIdeal.Gen

namespace Cert.Value

open Cert.Fourier

/-- Feature `c` of the `b`-th row of a group, in the folded layout. -/
def colAt (b : Fin 128) (c : Fin 512) : Fin 65536 := ⟨b.val * 512 + c.val, by omega⟩

/-- An angle's cosine and sine as extended reals. -/
def cosE (x : ℝ) : EReal := ((Real.cos x : ℝ) : EReal)
def sinE (x : ℝ) : EReal := ((Real.sin x : ℝ) : EReal)

theorem cos_word (n : BitVec 32) (v : ℕ) (hn : n.toInt = v) (w : BitVec 32) (d : ℝ) (hw : Ideal.ofBits .f32 w = (d : EReal)) (hd : d ≠ 0) :
    Ideal.cos ((FloatOps.sitofp .f32 n : Ideal .f32) * Ideal.div (Ideal.ofBits .f32 0x40000000#32 * Ideal.acos (Ideal.ofBits .f32 0xBF800000#32))
      (Ideal.ofBits .f32 w)) = cosE ((v : ℝ) * (2 * Real.pi / d)) := by
  rw [angle_eq n v hn w d hw hd]; rfl

theorem sin_word (n : BitVec 32) (v : ℕ) (hn : n.toInt = v) (w : BitVec 32) (d : ℝ) (hw : Ideal.ofBits .f32 w = (d : EReal)) (hd : d ≠ 0) :
    Ideal.sin ((FloatOps.sitofp .f32 n : Ideal .f32) * Ideal.div (Ideal.ofBits .f32 0x40000000#32 * Ideal.acos (Ideal.ofBits .f32 0xBF800000#32))
      (Ideal.ofBits .f32 w)) = sinE ((v : ℝ) * (2 * Real.pi / d)) := by
  rw [angle_eq n v hn w d hw hd]; rfl

/-- The word of a product of two small numbers. -/
theorem toInt_mul (a b : ℕ) (h : a * b < 2 ^ 31) : (IntOp.muli (BitVec.ofNat 32 a) (BitVec.ofNat 32 b)).toInt = ((a * b : ℕ) : ℤ) := by
  rw [muli_small, toInt_small _ h]

/-- The twiddle's word at row `b` of group `a`. -/
theorem toInt_twist (a : Fin 64) (b : Fin 128) :
    (IntOp.remsi .host (IntOp.muli (IntOp.divsi .host (BitVec.ofNat 32 (rowAt a b).val) 128#32)
      (IntOp.remsi .host (BitVec.ofNat 32 (rowAt a b).val) 128#32)) 8192#32).toInt = ((a.val * b.val : ℕ) : ℤ) := by
  have hr : (rowAt a b).val = a.val * 128 + b.val := rfl
  have hab : a.val * b.val < 8192 := by
    have h1 : a.val ≤ 63 := by omega
    have h2 : b.val ≤ 127 := by omega
    calc a.val * b.val ≤ 63 * 127 := Nat.mul_le_mul h1 h2
      _ < 8192 := by norm_num
  rw [divsi_small _ 128 (by omega) (by norm_num) (by norm_num), remsi_small _ 128 (by omega) (by norm_num) (by norm_num), hr,
    show (a.val * 128 + b.val) / 128 = a.val by omega, show (a.val * 128 + b.val) % 128 = b.val by omega, muli_small,
    remsi_small _ 8192 (by omega) (by norm_num) (by norm_num), Nat.mod_eq_of_lt hab, toInt_small _ (by omega)]

variable (U : Valuation τ sig (Elt Ideal))

theorem line0_v0 (i : Fin 3) (s : Fin 8192) : (StableHlo.after hostOps0 U (Proc.devRef .tc main_v0) : Vec Ideal S3x8192 .f32) (ix2 i s)
    = (U (Proc.devRef .tc main_arg0) : Vec Ideal S8192x3 .f32) (ix2 s i) := by
  unfold_abbrev_sides
  after_results
  pointwise

theorem line0_v1 (i : Fin 3) (s : Fin 2048) : (StableHlo.after hostOps0 U (Proc.devRef .tc main_v1) : Vec Ideal S3x2048 .f32) (ix2 i s)
    = (U (Proc.devRef .tc main_arg2) : Vec Ideal S2048x3 .f32) (ix2 s i) := by
  unfold_abbrev_sides
  after_results
  pointwise

theorem line0_v2 (i : Fin 3) (s : Fin 512) : (StableHlo.after hostOps0 U (Proc.devRef .tc main_v2) : Vec Ideal S3x512 .f32) (ix2 i s)
    = (U (Proc.devRef .tc main_arg4) : Vec Ideal S512x3 .f32) (ix2 s i) := by
  unfold_abbrev_sides
  after_results
  pointwise

theorem line0_v3 (c : Fin 512) : (StableHlo.after hostOps0 U (Proc.devRef .tc main_v3) : Vec Ideal S1x512 .f32) (ix2 0 c)
    = (U (Proc.devRef .tc main_arg8) : Vec Ideal S512 .f32) (ix1 c) := by
  unfold_abbrev_sides
  after_results
  pointwise

theorem line0_v4 (c : Fin 512) : (StableHlo.after hostOps0 U (Proc.devRef .tc main_v4) : Vec Ideal S1x512 .f32) (ix2 0 c)
    = (U (Proc.devRef .tc main_arg10) : Vec Ideal S512 .f32) (ix1 c) := by
  unfold_abbrev_sides
  after_results
  pointwise

theorem line0_v5 (c : Fin 512) : (StableHlo.after hostOps0 U (Proc.devRef .tc main_v5) : Vec Ideal S1x512 .f32) (ix2 0 c)
    = (U (Proc.devRef .tc main_arg12) : Vec Ideal S512 .f32) (ix1 c) := by
  unfold_abbrev_sides
  after_results
  pointwise

theorem line0_v6 (c : Fin 512) : (StableHlo.after hostOps0 U (Proc.devRef .tc main_v6) : Vec Ideal S1x512 .f32) (ix2 0 c)
    = (U (Proc.devRef .tc main_arg14) : Vec Ideal S512 .f32) (ix1 c) := by
  unfold_abbrev_sides
  after_results
  pointwise

theorem line0_v7 (c : Fin 512) : (StableHlo.after hostOps0 U (Proc.devRef .tc main_v7) : Vec Ideal S1x512 .f32) (ix2 0 c)
    = (U (Proc.devRef .tc main_arg16) : Vec Ideal S512 .f32) (ix1 c) := by
  unfold_abbrev_sides
  after_results
  pointwise

theorem line1_v43 (a k : Fin 64) : (StableHlo.after hostOps1 U (Proc.devRef .tc main_v43) : Vec Ideal S64x64 .f32) (ix2 a k)
    = cosE (outer a k) := by
  unfold_abbrev_sides
  after_results
  refine Eq.trans ?_ (cos_word (IntOp.muli (BitVec.ofNat 32 a.val) (BitVec.ofNat 32 k.val)) (a.val * k.val) (toInt_mul _ _ (by nlinarith [a.isLt, k.isLt])) 0x42800000#32 64 word_64 (by norm_num))
  pointwise

theorem line1_v44 (a k : Fin 64) : (StableHlo.after hostOps1 U (Proc.devRef .tc main_v44) : Vec Ideal S64x64 .f32) (ix2 a k)
    = sinE (outer a k) := by
  unfold_abbrev_sides
  after_results
  refine Eq.trans ?_ (sin_word (IntOp.muli (BitVec.ofNat 32 a.val) (BitVec.ofNat 32 k.val)) (a.val * k.val) (toInt_mul _ _ (by nlinarith [a.isLt, k.isLt])) 0x42800000#32 64 word_64 (by norm_num))
  pointwise

theorem line1_v45 (a k : Fin 128) : (StableHlo.after hostOps1 U (Proc.devRef .tc main_v45) : Vec Ideal S128x128 .f32) (ix2 a k)
    = cosE (inner a k) := by
  unfold_abbrev_sides
  after_results
  refine Eq.trans ?_ (cos_word (IntOp.muli (BitVec.ofNat 32 a.val) (BitVec.ofNat 32 k.val)) (a.val * k.val) (toInt_mul _ _ (by nlinarith [a.isLt, k.isLt])) 0x43000000#32 128 word_128 (by norm_num))
  pointwise

theorem line1_v46 (a k : Fin 128) : (StableHlo.after hostOps1 U (Proc.devRef .tc main_v46) : Vec Ideal S128x128 .f32) (ix2 a k)
    = sinE (inner a k) := by
  unfold_abbrev_sides
  after_results
  refine Eq.trans ?_ (sin_word (IntOp.muli (BitVec.ofNat 32 a.val) (BitVec.ofNat 32 k.val)) (a.val * k.val) (toInt_mul _ _ (by nlinarith [a.isLt, k.isLt])) 0x43000000#32 128 word_128 (by norm_num))
  pointwise

theorem line1_v48 (a : Fin 64) (b : Fin 128) : (StableHlo.after hostOps1 U (Proc.devRef .tc main_v48) : Vec Ideal S8192x1 .f32) (ix2 (rowAt a b) 0)
    = cosE (twist a b) := by
  unfold_abbrev_sides
  after_results
  refine Eq.trans ?_ (cos_word _ (a.val * b.val) (toInt_twist a b) 0x46000000#32 8192 word_8192 (by norm_num))
  pointwise

theorem line1_v50 (a : Fin 64) (b : Fin 128) : (StableHlo.after hostOps1 U (Proc.devRef .tc main_v50) : Vec Ideal S8192x1 .f32) (ix2 (rowAt a b) 0)
    = sinE (twist a b) := by
  unfold_abbrev_sides
  after_results
  refine Eq.trans ?_ (sin_word _ (a.val * b.val) (toInt_twist a b) 0x46000000#32 8192 word_8192 (by norm_num))
  pointwise

/-- The folded column's row and feature. -/
theorem unfold_col (a : Fin 64) (b : Fin 128) (c : Fin 512) (h h') :
    (ix2 (⟨a.val * 128 + (colAt b c).val / 512, h⟩ : Fin 8192) (⟨(colAt b c).val % 512, h'⟩ : Fin 512)) = ix2 (rowAt a b) c := by
  have h1 : (colAt b c).val = b.val * 512 + c.val := rfl
  congr 1 <;> apply Fin.ext <;> simp only [rowAt, h1] <;> omega

/-- The row's place in the folded layout. -/
theorem fold_row (a : Fin 64) (b : Fin 128) (c : Fin 512) (h h') :
    (ix2 (⟨(rowAt a b).val / 128, h⟩ : Fin 64) (⟨(rowAt a b).val % 128 * 512 + c.val, h'⟩ : Fin 65536)) = ix2 a (colAt b c) := by
  have h1 : (rowAt a b).val = a.val * 128 + b.val := rfl
  congr 1 <;> apply Fin.ext <;> simp only [colAt, h1] <;> omega

theorem line1_v51 (a : Fin 64) (b : Fin 128) (c : Fin 512) : (StableHlo.after hostOps1 U (Proc.devRef .tc main_v51) : Vec Ideal S64x65536 .f32) (ix2 a (colAt b c))
    = (U (Proc.devRef .tc main_v8) : Vec Ideal S8192x512 .f32) (ix2 (rowAt a b) c) := by
  unfold_abbrev_sides
  after_results
  pointwise
  exact congrArg (U (Proc.devRef .tc main_v8) : Vec Ideal S8192x512 .f32) (unfold_col a b c _ _)

theorem line3_v58 (a : Fin 64) (b : Fin 128) (c : Fin 512) : (StableHlo.after hostOps3 U (Proc.devRef .tc main_v58) : Vec Ideal S64x65536 .f32) (ix2 a (colAt b c))
    = (U (Proc.devRef .tc main_v57_0) : Vec Ideal S8192x512 .f32) (ix2 (rowAt a b) c) := by
  unfold_abbrev_sides
  after_results
  pointwise
  exact congrArg (U (Proc.devRef .tc main_v57_0) : Vec Ideal S8192x512 .f32) (unfold_col a b c _ _)

theorem line3_v59 (a : Fin 64) (b : Fin 128) (c : Fin 512) : (StableHlo.after hostOps3 U (Proc.devRef .tc main_v59) : Vec Ideal S64x65536 .f32) (ix2 a (colAt b c))
    = (U (Proc.devRef .tc main_v57_1) : Vec Ideal S8192x512 .f32) (ix2 (rowAt a b) c) := by
  unfold_abbrev_sides
  after_results
  pointwise
  exact congrArg (U (Proc.devRef .tc main_v57_1) : Vec Ideal S8192x512 .f32) (unfold_col a b c _ _)

theorem line2_v53 (a : Fin 64) (b : Fin 128) (c : Fin 512) : (StableHlo.after hostOps2 U (Proc.devRef .tc main_v53) : Vec Ideal S8192x512 .f32) (ix2 (rowAt a b) c)
    = (U (Proc.devRef .tc main_v52_0) : Vec Ideal S64x65536 .f32) (ix2 a (colAt b c)) := by
  unfold_abbrev_sides
  after_results
  pointwise
  exact congrArg (U (Proc.devRef .tc main_v52_0) : Vec Ideal S64x65536 .f32) (fold_row a b c _ _)

theorem line2_v54 (a : Fin 64) (b : Fin 128) (c : Fin 512) : (StableHlo.after hostOps2 U (Proc.devRef .tc main_v54) : Vec Ideal S8192x512 .f32) (ix2 (rowAt a b) c)
    = (U (Proc.devRef .tc main_v52_1) : Vec Ideal S64x65536 .f32) (ix2 a (colAt b c)) := by
  unfold_abbrev_sides
  after_results
  pointwise
  exact congrArg (U (Proc.devRef .tc main_v52_1) : Vec Ideal S64x65536 .f32) (fold_row a b c _ _)

theorem line4_v61 (a : Fin 64) (b : Fin 128) (c : Fin 512) : (StableHlo.after hostOps4 U (Proc.devRef .tc main_v61) : Vec Ideal S8192x512 .f32) (ix2 (rowAt a b) c)
    = (U (Proc.devRef .tc main_v60) : Vec Ideal S64x65536 .f32) (ix2 a (colAt b c)) := by
  unfold_abbrev_sides
  after_results
  pointwise
  exact congrArg (U (Proc.devRef .tc main_v60) : Vec Ideal S64x65536 .f32) (fold_row a b c _ _)

theorem line2_v55 (c : Fin 512) : (StableHlo.after hostOps2 U (Proc.devRef .tc main_v55) : Vec Ideal S1x512 .f32) (ix2 0 c)
    = (U (Proc.devRef .tc main_arg18) : Vec Ideal S512 .f32) (ix1 c) := by
  unfold_abbrev_sides
  after_results
  pointwise

theorem line2_v56 (c : Fin 512) : (StableHlo.after hostOps2 U (Proc.devRef .tc main_v56) : Vec Ideal S1x512 .f32) (ix2 0 c)
    = (U (Proc.devRef .tc main_arg20) : Vec Ideal S512 .f32) (ix1 c) := by
  unfold_abbrev_sides
  after_results
  pointwise

end Cert.Value

end
-- ==== Proof.Arrays.lean ====
/-
  What the first and the last transform kernel leave in their output arrays, as formulas over the contents their input arrays hold at entry.
-/
module

public import proofs.«01_k».proof.Proof.Stages
public import Idealize.ShloMosaic.Lib.Pipeline.ValueKit

@[expose] public section

noncomputable section

open Idealize.ShloMosaic Idealize.SL.Sem
open Cert.KernelIdeal Cert.KernelIdeal.Gen

namespace Cert.Value

variable (V : (c : Dev nD) → (b : Ref sig .tc) → Buf (Elt Ideal) ((c.tc : Thread nD τ).loc b))

/-! ### The first transform kernel -/

theorem at1_0 : ∀ t : Fin cfg1.N, win1_0.index t = ![0, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, (grid1.coords t 0).val] := (by decide +kernel : ∀ t : Fin grid1.N, _)
theorem at1_3 : ∀ t : Fin cfg1.N, win1_3.index t = ![0, (grid1.coords t 0).val] := (by decide +kernel : ∀ t : Fin grid1.N, _)
theorem at1_4 : ∀ t : Fin cfg1.N, win1_4.index t = ![0, (grid1.coords t 0).val] := (by decide +kernel : ∀ t : Fin grid1.N, _)

/-- A column-wise product with a square table. -/
def tableMul (x : Vec Ideal S64x64 .f32) (f : Vec Ideal S64x65536 .f32) : Vec Ideal S64x65536 .f32 := fun i =>
  ∑ a : Fin 64, x (ix2 (i 0) a) * f (ix2 a (i 1))

/-- Minus a column-wise product with a square table. -/
def tableNeg (x : Vec Ideal S64x64 .f32) (f : Vec Ideal S64x65536 .f32) : Vec Ideal S64x65536 .f32 := fun i =>
  0 - ∑ a : Fin 64, x (ix2 (i 0) a) * f (ix2 a (i 1))

/-- The real part after the first transform kernel. -/
theorem array1_re (c : Dev nD) : (dat1 V c).arrAt 3 cfg1.N = tableMul (V c main_v43) (V c main_v51) := by
  refine (dat1 V c).arrAt_eq_of_covers 3 _ (by decide +kernel) fun t _ y => ?_
  blk_simp
  rw [after1_3]
  refine (congrArg _ (eq_ix2 y)).trans ((stage1_re _ _ _ (y 0) (y 1)).trans ?_)
  unfold tableMul
  blk_point [iblk1, at1_0, at1_1, at1_2, at1_3]

/-- The imaginary part after the first transform kernel. -/
theorem array1_im (c : Dev nD) : (dat1 V c).arrAt 4 cfg1.N = tableNeg (V c main_v44) (V c main_v51) := by
  refine (dat1 V c).arrAt_eq_of_covers 4 _ (by decide +kernel) fun t _ y => ?_
  blk_simp
  rw [after1_4]
  refine (congrArg _ (eq_ix2 y)).trans ((stage1_im _ _ _ (y 0) (y 1)).trans ?_)
  unfold tableNeg
  blk_point [iblk1, at1_0, at1_1, at1_2, at1_4]

/-! ### The last transform kernel -/

theorem at3_0 : ∀ t : Fin cfg3.N, win3_0.index t = ![0, 0] := (by decide +kernel : ∀ t : Fin grid3.N, _)
theorem at3_1 : ∀ t : Fin cfg3.N, win3_1.index t = ![0, 0] := (by decide +kernel : ∀ t : Fin grid3.N, _)
theorem at3_2 : ∀ t : Fin cfg3.N, win3_2.index t = ![0, (grid3.coords t 0).val] := (by decide +kernel : ∀ t : Fin grid3.N, _)
theorem at3_3 : ∀ t : Fin cfg3.N, win3_3.index t = ![0, (grid3.coords t 0).val] := (by decide +kernel : ∀ t : Fin grid3.N, _)
theorem at3_4 : ∀ t : Fin cfg3.N, win3_4.index t = ![0, (grid3.coords t 0).val] := (by decide +kernel : ∀ t : Fin grid3.N, _)
theorem at3_5 : ∀ t : Fin cfg3.N, win3_5.index t = ![0, (grid3.coords t 0).val] := (by decide +kernel : ∀ t : Fin grid3.N, _)

/-- The gated features: the inverse transform's last products, scaled, through the logistic function. -/
def gated (C S : Vec Ideal S64x64 .f32) (re im f : Vec Ideal S64x65536 .f32) : Vec Ideal S64x65536 .f32 := fun i =>
  f (ix2 (i 0) (i 1)) * (1 + Ideal.logistic (((∑ a : Fin 64, C (ix2 (i 0) a) * re (ix2 a (i 1)))
    + ∑ a : Fin 64, S (ix2 (i 0) a) * im (ix2 a (i 1))) * Ideal.ofBits .f32 0x39000000#32))

/-- What the last transform kernel leaves. -/
theorem array3 (c : Dev nD) : (dat3 V c).arrAt 5 cfg3.N
    = gated (V c main_v43) (V c main_v44) (V c main_v58) (V c main_v59) (V c main_v51) := by
  refine (dat3 V c).arrAt_eq_of_covers 5 _ (by decide +kernel) fun t _ y => ?_
  blk_simp
  rw [after3_5]
  refine (congrArg _ (eq_ix2 y)).trans ((stage3 _ _ _ _ _ (y 0) (y 1)).trans ?_)
  unfold gated
  blk_point [iblk3, at3_0, at3_1, at3_2, at3_3, at3_4, at3_5]

end Cert.Value

end
-- ==== Proof.Front.lean ====
/-
  What the front kernel leaves for one block of rows: at row `r` and feature `c`, the fused feature of the row's three
  interpolations, as a formula over the windows' contents.
-/
module

public import proofs.«01_k».proof.Proof.Gen.KernelIdeal.Frame
public import proofs.«01_k».proof.Proof.Spec

@[expose] public section

noncomputable section

open Idealize.ShloMosaic Idealize.SL.Sem
open Cert.KernelIdeal Cert.KernelIdeal.Gen

namespace Cert.Value

/-- The word of positive infinity is the top element. -/
theorem word_inf : Ideal.ofBits .f32 0x7F800000#32 = ⊤ := by
  simp [Ideal.ofBits, Ideal.ieee]

/-- The named far value is the top element. -/
theorem far_top : (Named.named κ "far" 0x7149F2CA#32 : Ideal .f32) = ⊤ :=
  IdealRules.named_const.ideal_named_scalar _ _ _ _ rfl

/-- The squared distances of the block's rows to the 8192 sources. -/
theorem dist_first (x0 y0 z0 : Vec Ideal S256x1 .f32) (x1 y1 z1 : Vec Ideal S1x8192 .f32) (r : Fin 256) (s : Fin 8192) :
    k0_pay2 x0 x1 y0 y1 z0 z1 (ix2 r s)
      = sq3 ![x0 (ix2 r 0), y0 (ix2 r 0), z0 (ix2 r 0)] ![x1 (ix2 0 s), y1 (ix2 0 s), z1 (ix2 0 s)] := by
  pointwise [k0_pay2, sq3]

/-- Which of the 8192 sources are among a row's nearest three. -/
theorem near_first (x0 y0 z0 : Vec Ideal S256x1 .f32) (x1 y1 z1 : Vec Ideal S1x8192 .f32) (r : Fin 256) (s : Fin 8192) :
    k0_pay3 x0 x1 y0 y1 z0 z1 (ix2 r s)
      = BitVec.ofBool (decide (k0_pay2 x0 x1 y0 y1 z0 z1 (ix2 r s)
          ≤ third fun s => k0_pay2 x0 x1 y0 y1 z0 z1 (ix2 r s))) := by
  pointwise [k0_pay3, word_inf, far_top, third, without, least]

/-- The projected interpolation from the 8192 sources. -/
theorem proj_first (d : FVec Ideal S256x8192 .f32) (m : IVec S256x8192 1) (F : Vec Ideal S8192x256 .f32)
    (W : Vec Ideal S256x512 .f32) (b : Vec Ideal S1x512 .f32) (r : Fin 256) (c : Fin 512)
    (hm : ∀ s, m (ix2 r s) = BitVec.ofBool (decide (d (ix2 r s) ≤ third fun s => d (ix2 r s)))) :
    k0_pay4 d m F W b (ix2 r c)
      = affine (fun k => blend (fun s => d (ix2 r s)) (fun s => F (ix2 s k))) (fun k c => W (ix2 k c))
          (fun c => b (ix2 0 c)) c := by
  pointwise [k0_pay4, dot_S256x8192_S8192x256_S256x256_1_0_0_1_n_n, dot_S256x256_S256x512_S256x512_1_0_0_1_n_n, hm,
    affine, blend, weight, eps]

/-- The squared distances of the block's rows to the 2048 sources, the last coordinate's square added last. -/
def distSecond (d : FVec Ideal S256x2048 .f32) (z0 : Vec Ideal S256x1 .f32) (z1 : Vec Ideal S1x2048 .f32) (r : Fin 256)
    (s : Fin 2048) : EReal :=
  d (ix2 r s) + (z0 (ix2 r 0) - z1 (ix2 0 s)) * (z0 (ix2 r 0) - z1 (ix2 0 s))

/-- The projected interpolation from the 2048 sources, from the distances of the first two coordinates. -/
theorem proj_second_aux (d : FVec Ideal S256x2048 .f32) (z0 : Vec Ideal S256x1 .f32) (z1 : Vec Ideal S1x2048 .f32)
    (F : Vec Ideal S2048x512 .f32) (W : Vec Ideal S512x512 .f32) (b : Vec Ideal S1x512 .f32) (r : Fin 256) (c : Fin 512) :
    k0_pay7 (k0_pay6 d z0 z1 F W) b (ix2 r c)
      = affine (fun k => blend (distSecond d z0 z1 r) (fun s => F (ix2 s k))) (fun k c => W (ix2 k c))
          (fun c => b (ix2 0 c)) c := by
  pointwise [k0_pay7, k0_pay6, dot_S256x2048_S2048x512_S256x512_1_0_0_1_n_n,
    dot_S256x512_S512x512_S256x512_1_0_0_1_n_n, word_inf, far_top, affine, blend, weight, third, without, least, eps, distSecond]

/-- The projected interpolation from the 2048 sources. -/
theorem proj_second (x0 y0 z0 : Vec Ideal S256x1 .f32) (x1 y1 z1 : Vec Ideal S1x2048 .f32)
    (F : Vec Ideal S2048x512 .f32) (W : Vec Ideal S512x512 .f32) (b : Vec Ideal S1x512 .f32) (r : Fin 256) (c : Fin 512) :
    k0_pay7 (k0_pay6 (k0_pay5 x0 x1 y0 y1) z0 z1 F W) b (ix2 r c)
      = affine (fun k => blend (fun s => sq3 ![x0 (ix2 r 0), y0 (ix2 r 0), z0 (ix2 r 0)]
            ![x1 (ix2 0 s), y1 (ix2 0 s), z1 (ix2 0 s)]) (fun s => F (ix2 s k))) (fun k c => W (ix2 k c))
          (fun c => b (ix2 0 c)) c := by
  rw [proj_second_aux]
  have hd : distSecond (k0_pay5 x0 x1 y0 y1) z0 z1 r = fun s => sq3 ![x0 (ix2 r 0), y0 (ix2 r 0), z0 (ix2 r 0)]
      ![x1 (ix2 0 s), y1 (ix2 0 s), z1 (ix2 0 s)] := by
    funext s
    pointwise [distSecond, k0_pay5, sq3]
  rw [hd]

/-- The squared distances of the block's rows to the 512 sources. -/
theorem dist_third (x0 y0 z0 : Vec Ideal S256x1 .f32) (x1 y1 z1 : Vec Ideal S1x512 .f32) (r : Fin 256) (s : Fin 512) :
    k0_pay8 x0 x1 y0 y1 z0 z1 (ix2 r s)
      = sq3 ![x0 (ix2 r 0), y0 (ix2 r 0), z0 (ix2 r 0)] ![x1 (ix2 0 s), y1 (ix2 0 s), z1 (ix2 0 s)] := by
  pointwise [k0_pay8, sq3]

/-- The row of distances with its least two taken away. -/
theorem without_third (x0 y0 z0 : Vec Ideal S256x1 .f32) (x1 y1 z1 : Vec Ideal S1x512 .f32) (r : Fin 256) (s : Fin 512) :
    k0_pay9 x0 x1 y0 y1 z0 z1 (ix2 r s)
      = without (without fun s => k0_pay8 x0 x1 y0 y1 z0 z1 (ix2 r s)) s := by
  pointwise [k0_pay9, word_inf, far_top, without, least]

/-- The hidden layer from the two projected interpolations and the third set's distances. -/
theorem hidden_row (e0 e1 : FVec Ideal S256x512 .f32) (d w : FVec Ideal S256x512 .f32) (F : Vec Ideal S512x1024 .f32)
    (P : Vec Ideal S1024x512 .f32) (p : Vec Ideal S1x512 .f32) (W0 W1 W2 : Vec Ideal S512x512 .f32)
    (b : Vec Ideal S1x512 .f32) (r : Fin 256) (c : Fin 512)
    (hw : ∀ s, w (ix2 r s) = without (without fun s => d (ix2 r s)) s) :
    k0_pay10 e0 e1 d w F P p W0 W1 W2 b (ix2 r c)
      = (∑ k : Fin 512, e0 (ix2 r k) * W0 (ix2 k c)) + (∑ k : Fin 512, e1 (ix2 r k) * W1 (ix2 k c))
        + (∑ k : Fin 512, affine (fun k => blend (fun s => d (ix2 r s)) (fun s => F (ix2 s k)))
            (fun k c => P (ix2 k c)) (fun c => p (ix2 0 c)) k * W2 (ix2 k c)) + b (ix2 0 c) := by
  pointwise [k0_pay10, dot_S256x512_S512x1024_S256x1024_1_0_0_1_n_n, dot_S256x1024_S1024x512_S256x512_1_0_0_1_n_n,
    dot_S256x512_S512x512_S256x512_1_0_0_1_n_n, word_inf, hw, affine, blend, weight, third, least, eps]

/-- The output layer. -/
theorem out_row (h : FVec Ideal S256x512 .f32) (V : Vec Ideal S512x512 .f32) (c : Vec Ideal S1x512 .f32)
    (r : Fin 256) (j : Fin 512) :
    k0_pay1 h V c (ix2 r j)
      = affine (fun i => gelu (h (ix2 r i))) (fun k c => V (ix2 k c)) (fun j => c (ix2 0 j)) j := by
  pointwise [k0_pay1, dot_S256x512_S512x512_S256x512_1_0_0_1_n_n, affine, gelu]
  rfl

/-- A point read from a three-column block. -/
theorem point_eta {n : ℕ} (x : (⟨2, ![n, 3]⟩ : Shape).Idx → EReal) (r : Fin n) :
    ![x (ix2 r 0), x (ix2 r 1), x (ix2 r 2)] = fun i : Fin 3 => x (ix2 r i) := by
  funext i; fin_cases i <;> rfl

/-- A point read from a three-row block. -/
theorem point_eta' {n : ℕ} (x : (⟨2, ![3, n]⟩ : Shape).Idx → EReal) (r : Fin n) :
    ![x (ix2 0 r), x (ix2 1 r), x (ix2 2 r)] = fun i : Fin 3 => x (ix2 i r) := by
  funext i; fin_cases i <;> rfl

/-- The front block at a row and a feature. -/
theorem front_block (x0 : Vec Ideal S256x3 .f32) (x1 : Vec Ideal S3x8192 .f32) (x2 : Vec Ideal S8192x256 .f32)
    (x3 : Vec Ideal S256x512 .f32) (x4 : Vec Ideal S1x512 .f32) (x5 : Vec Ideal S3x2048 .f32)
    (x6 : Vec Ideal S2048x512 .f32) (x7 : Vec Ideal S512x512 .f32) (x8 : Vec Ideal S1x512 .f32)
    (x9 : Vec Ideal S3x512 .f32) (x10 : Vec Ideal S512x1024 .f32) (x11 : Vec Ideal S1024x512 .f32)
    (x12 : Vec Ideal S1x512 .f32) (x13 : Vec Ideal S1536x512 .f32) (x14 : Vec Ideal S1x512 .f32)
    (x15 : Vec Ideal S512x512 .f32) (x16 : Vec Ideal S1x512 .f32) (r : Fin 256) (c : Fin 512) :
    out0_17 x0 x1 x2 x3 x4 x5 x6 x7 x8 x9 x10 x11 x12 x13 x14 x15 x16 (ix2 r c)
      = fuse
          (affine (fun k => blend (fun s => sq3 (fun i => x0 (ix2 r i)) (fun i => x1 (ix2 i s))) (fun s => x2 (ix2 s k)))
            (fun k c => x3 (ix2 k c)) (fun c => x4 (ix2 0 c)))
          (affine (fun k => blend (fun s => sq3 (fun i => x0 (ix2 r i)) (fun i => x5 (ix2 i s))) (fun s => x6 (ix2 s k)))
            (fun k c => x7 (ix2 k c)) (fun c => x8 (ix2 0 c)))
          (affine (fun k => blend (fun s => sq3 (fun i => x0 (ix2 r i)) (fun i => x9 (ix2 i s))) (fun s => x10 (ix2 s k)))
            (fun k c => x11 (ix2 k c)) (fun c => x12 (ix2 0 c)))
          (fun k c => x13 (ix2 k c)) (fun c => x14 (ix2 0 c)) (fun k c => x15 (ix2 k c)) (fun c => x16 (ix2 0 c)) c := by
  have h0 : (![0, 0] : Fin 2 → ℕ) = fun _ => 0 := by funext i; fin_cases i <;> rfl
  unfold out0_17
  rw [View.canon_unit_zero h0]
  rw [show View.ld x2 r0_6 = x2 from View.ld_unit_zero h0 _ x2, show View.ld x3 r0_7 = x3 from View.ld_unit_zero h0 _ x3,
    show View.ld x4 r0_8 = x4 from View.ld_unit_zero h0 _ x4, show View.ld x6 r0_12 = x6 from View.ld_unit_zero h0 _ x6,
    show View.ld x7 r0_13 = x7 from View.ld_unit_zero h0 _ x7, show View.ld x8 r0_8 = x8 from View.ld_unit_zero h0 _ x8,
    show View.ld x10 r0_17 = x10 from View.ld_unit_zero h0 _ x10, show View.ld x11 r0_18 = x11 from View.ld_unit_zero h0 _ x11,
    show View.ld x12 r0_8 = x12 from View.ld_unit_zero h0 _ x12, show View.ld x14 r0_8 = x14 from View.ld_unit_zero h0 _ x14,
    show View.ld x15 r0_13 = x15 from View.ld_unit_zero h0 _ x15, show View.ld x16 r0_8 = x16 from View.ld_unit_zero h0 _ x16]
  rw [out_row]
  refine congrArg (fun h : Fin 512 → EReal => affine (fun i => gelu (h i)) (fun k c => x15 (ix2 k c))
    (fun c => x16 (ix2 0 c)) c) (funext fun j => ?_)
  rw [hidden_row _ _ _ _ _ _ _ _ _ _ _ _ _ (without_third _ _ _ _ _ _ r)]
  unfold hidden
  have e1 := fun k : Fin 512 => proj_second (View.ld x0 r0_0) (View.ld x0 r0_2) (View.ld x0 r0_4) (View.ld x5 r0_9)
    (View.ld x5 r0_10) (View.ld x5 r0_11) x6 x7 x8 r k
  have e0 := fun k : Fin 512 => proj_first _ _ x2 x3 x4 r k (near_first (View.ld x0 r0_0) (View.ld x0 r0_2)
    (View.ld x0 r0_4) (View.ld x1 r0_1) (View.ld x1 r0_3) (View.ld x1 r0_5) r)
  simp only [e0, e1, dist_first, dist_third]
  pointwise [point_eta, point_eta']

end Cert.Value

end
-- ==== Proof.FrontArray.lean ====
/-
  What the front kernel leaves in its output array, as a formula over the contents its input arrays hold at entry.
-/
module

public import proofs.«01_k».proof.Proof.Front
public import Idealize.ShloMosaic.Lib.Pipeline.ValueKit

@[expose] public section

noncomputable section

open Idealize.ShloMosaic Idealize.SL.Sem
open Cert.KernelIdeal Cert.KernelIdeal.Gen

namespace Cert.Value

variable (V : (c : Dev nD) → (b : Ref sig .tc) → Buf (Elt Ideal) ((c.tc : Thread nD τ).loc b))

/-! ### The front kernel -/

theorem at0_0 : ∀ t : Fin cfg0.N, win0_0.index t = ![(grid0.coords t 0).val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)
theorem at0_4 : ∀ t : Fin cfg0.N, win0_4.index t = ![0, 0] := (by decide +kernel : ∀ t : Fin grid0.N, _)
theorem at0_5 : ∀ t : Fin cfg0.N, win0_5.index t = ![0, 0] := (by decide +kernel : ∀ t : Fin grid0.N, _)
theorem at0_6 : ∀ t : Fin cfg0.N, win0_6.index t = ![0, 0] := (by decide +kernel : ∀ t : Fin grid0.N, _)
theorem at0_7 : ∀ t : Fin cfg0.N, win0_7.index t = ![0, 0] := (by decide +kernel : ∀ t : Fin grid0.N, _)
theorem at0_8 : ∀ t : Fin cfg0.N, win0_8.index t = ![0, 0] := (by decide +kernel : ∀ t : Fin grid0.N, _)
theorem at0_9 : ∀ t : Fin cfg0.N, win0_9.index t = ![0, 0] := (by decide +kernel : ∀ t : Fin grid0.N, _)
theorem at0_10 : ∀ t : Fin cfg0.N, win0_10.index t = ![0, 0] := (by decide +kernel : ∀ t : Fin grid0.N, _)
theorem at0_11 : ∀ t : Fin cfg0.N, win0_11.index t = ![0, 0] := (by decide +kernel : ∀ t : Fin grid0.N, _)
theorem at0_12 : ∀ t : Fin cfg0.N, win0_12.index t = ![0, 0] := (by decide +kernel : ∀ t : Fin grid0.N, _)
theorem at0_13 : ∀ t : Fin cfg0.N, win0_13.index t = ![0, 0] := (by decide +kernel : ∀ t : Fin grid0.N, _)
theorem at0_14 : ∀ t : Fin cfg0.N, win0_14.index t = ![0, 0] := (by decide +kernel : ∀ t : Fin grid0.N, _)
theorem at0_15 : ∀ t : Fin cfg0.N, win0_15.index t = ![0, 0] := (by decide +kernel : ∀ t : Fin grid0.N, _)
theorem at0_16 : ∀ t : Fin cfg0.N, win0_16.index t = ![0, 0] := (by decide +kernel : ∀ t : Fin grid0.N, _)
theorem at0_17 : ∀ t : Fin cfg0.N, win0_17.index t = ![(grid0.coords t 0).val, 0] := (by decide +kernel : ∀ t : Fin grid0.N, _)

section
variable (a0 : Vec Ideal S8192x3 .f32)
  (a1 : Vec Ideal S3x8192 .f32)
  (a2 : Vec Ideal S8192x256 .f32)
  (a3 : Vec Ideal S256x512 .f32)
  (a4 : Vec Ideal S1x512 .f32)
  (a5 : Vec Ideal S3x2048 .f32)
  (a6 : Vec Ideal S2048x512 .f32)
  (a7 : Vec Ideal S512x512 .f32)
  (a8 : Vec Ideal S1x512 .f32)
  (a9 : Vec Ideal S3x512 .f32)
  (a10 : Vec Ideal S512x1024 .f32)
  (a11 : Vec Ideal S1024x512 .f32)
  (a12 : Vec Ideal S1x512 .f32)
  (a13 : Vec Ideal S1536x512 .f32)
  (a14 : Vec Ideal S1x512 .f32)
  (a15 : Vec Ideal S512x512 .f32)
  (a16 : Vec Ideal S1x512 .f32)

/-- The fused features over the whole array. -/
def frontArray : Vec Ideal S8192x512 .f32 := fun j => fuse
    (affine (fun k => blend (fun s => sq3 (fun i => a0 (ix2 (j 0) i)) (fun i => a1 (ix2 i s))) (fun s => a2 (ix2 s k)))
      (fun k c => a3 (ix2 k c)) (fun c => a4 (ix2 0 c)))
    (affine (fun k => blend (fun s => sq3 (fun i => a0 (ix2 (j 0) i)) (fun i => a5 (ix2 i s))) (fun s => a6 (ix2 s k)))
      (fun k c => a7 (ix2 k c)) (fun c => a8 (ix2 0 c)))
    (affine (fun k => blend (fun s => sq3 (fun i => a0 (ix2 (j 0) i)) (fun i => a9 (ix2 i s))) (fun s => a10 (ix2 s k)))
      (fun k c => a11 (ix2 k c)) (fun c => a12 (ix2 0 c)))
    (fun k c => a13 (ix2 k c)) (fun c => a14 (ix2 0 c)) (fun k c => a15 (ix2 k c)) (fun c => a16 (ix2 0 c)) (j 1)

/-- A block whose target rows are the array's gives the array's rows. -/
theorem front_of_blocks (x0 : Vec Ideal S256x3 .f32) (x1 : Vec Ideal S3x8192 .f32) (x2 : Vec Ideal S8192x256 .f32)
    (x3 : Vec Ideal S256x512 .f32) (x4 : Vec Ideal S1x512 .f32) (x5 : Vec Ideal S3x2048 .f32) (x6 : Vec Ideal S2048x512 .f32)
    (x7 : Vec Ideal S512x512 .f32) (x8 : Vec Ideal S1x512 .f32) (x9 : Vec Ideal S3x512 .f32) (x10 : Vec Ideal S512x1024 .f32)
    (x11 : Vec Ideal S1024x512 .f32) (x12 : Vec Ideal S1x512 .f32) (x13 : Vec Ideal S1536x512 .f32) (x14 : Vec Ideal S1x512 .f32)
    (x15 : Vec Ideal S512x512 .f32) (x16 : Vec Ideal S1x512 .f32) (r : Fin 256) (R : Fin 8192) (c : Fin 512)
    (h0 : ∀ i, x0 (ix2 r i) = a0 (ix2 R i)) (h1 : x1 = a1) (h2 : x2 = a2) (h3 : x3 = a3) (h4 : x4 = a4) (h5 : x5 = a5) (h6 : x6 = a6) (h7 : x7 = a7) (h8 : x8 = a8) (h9 : x9 = a9) (h10 : x10 = a10) (h11 : x11 = a11) (h12 : x12 = a12) (h13 : x13 = a13) (h14 : x14 = a14) (h15 : x15 = a15) (h16 : x16 = a16)
    (i : S8192x512.Idx) (hR : (i 0 : Fin 8192) = R) (hc : (i 1 : Fin 512) = c) :
    out0_17 x0 x1 x2 x3 x4 x5 x6 x7 x8 x9 x10 x11 x12 x13 x14 x15 x16 (ix2 r c) = frontArray a0 a1 a2 a3 a4 a5 a6 a7 a8 a9 a10 a11 a12 a13 a14 a15 a16 i := by
  subst h1 h2 h3 h4 h5 h6 h7 h8 h9 h10 h11 h12 h13 h14 h15 h16
  have hR' : i 0 = R := hR
  have hc' : i 1 = c := hc
  rw [front_block]
  unfold frontArray
  rw [hR', hc']
  simp only [h0]
end

/-- Row `r` of the `t`-th block of 256 rows. -/
def rowOf (t : Fin 32) (r : Fin 256) : Fin 8192 := ⟨t.val * 256 + r.val, by omega⟩

theorem blk0_1 (c : Dev nD) (t : Fin cfg0.N) : iblk0 V c 1 t = V c main_v0 := by blk_ext! [iblk0, at0_1]
theorem blk0_2 (c : Dev nD) (t : Fin cfg0.N) : iblk0 V c 2 t = V c main_arg1 := by blk_ext! [iblk0, at0_2]
theorem blk0_3 (c : Dev nD) (t : Fin cfg0.N) : iblk0 V c 3 t = V c main_arg7 := by blk_ext! [iblk0, at0_3]
theorem blk0_4 (c : Dev nD) (t : Fin cfg0.N) : iblk0 V c 4 t = V c main_v3 := by blk_ext! [iblk0, at0_4]
theorem blk0_5 (c : Dev nD) (t : Fin cfg0.N) : iblk0 V c 5 t = V c main_v1 := by blk_ext! [iblk0, at0_5]
theorem blk0_6 (c : Dev nD) (t : Fin cfg0.N) : iblk0 V c 6 t = V c main_arg3 := by blk_ext! [iblk0, at0_6]
theorem blk0_7 (c : Dev nD) (t : Fin cfg0.N) : iblk0 V c 7 t = V c main_arg9 := by blk_ext! [iblk0, at0_7]
theorem blk0_8 (c : Dev nD) (t : Fin cfg0.N) : iblk0 V c 8 t = V c main_v4 := by blk_ext! [iblk0, at0_8]
theorem blk0_9 (c : Dev nD) (t : Fin cfg0.N) : iblk0 V c 9 t = V c main_v2 := by blk_ext! [iblk0, at0_9]
theorem blk0_10 (c : Dev nD) (t : Fin cfg0.N) : iblk0 V c 10 t = V c main_arg5 := by blk_ext! [iblk0, at0_10]
theorem blk0_11 (c : Dev nD) (t : Fin cfg0.N) : iblk0 V c 11 t = V c main_arg11 := by blk_ext! [iblk0, at0_11]
theorem blk0_12 (c : Dev nD) (t : Fin cfg0.N) : iblk0 V c 12 t = V c main_v5 := by blk_ext! [iblk0, at0_12]
theorem blk0_13 (c : Dev nD) (t : Fin cfg0.N) : iblk0 V c 13 t = V c main_arg13 := by blk_ext! [iblk0, at0_13]
theorem blk0_14 (c : Dev nD) (t : Fin cfg0.N) : iblk0 V c 14 t = V c main_v6 := by blk_ext! [iblk0, at0_14]
theorem blk0_15 (c : Dev nD) (t : Fin cfg0.N) : iblk0 V c 15 t = V c main_arg15 := by blk_ext! [iblk0, at0_15]
theorem blk0_16 (c : Dev nD) (t : Fin cfg0.N) : iblk0 V c 16 t = V c main_v7 := by blk_ext! [iblk0, at0_16]

/-- What the front kernel leaves. -/
theorem array0 (c : Dev nD) : (dat0 V c).arrAt 17 cfg0.N
    = frontArray (V c main_arg6) (V c main_v0) (V c main_arg1) (V c main_arg7) (V c main_v3) (V c main_v1) (V c main_arg3) (V c main_arg9) (V c main_v4) (V c main_v2) (V c main_arg5) (V c main_arg11) (V c main_v5) (V c main_arg13) (V c main_v6) (V c main_arg15) (V c main_v7) := by
  refine (dat0 V c).arrAt_eq_of_covers 17 _ (by decide +kernel) fun t _ y => ?_
  blk_simp
  rw [after0_17]
  refine (congrArg _ (eq_ix2 y)).trans ?_
  refine front_of_blocks _ _ _ _ _ _ _ _ _ _ _ _ _ _ _ _ _ _ _ _ _ _ _ _ _ _ _ _ _ _ _ _ _ _  (y 0) (rowOf (grid0.coords t 0) (y 0)) (y 1) ?_ (blk0_1 V c t) (blk0_2 V c t) (blk0_3 V c t) (blk0_4 V c t) (blk0_5 V c t) (blk0_6 V c t) (blk0_7 V c t) (blk0_8 V c t) (blk0_9 V c t) (blk0_10 V c t) (blk0_11 V c t) (blk0_12 V c t) (blk0_13 V c t) (blk0_14 V c t) (blk0_15 V c t) (blk0_16 V c t) _ ?_ ?_
  · intro i; blk_ext [iblk0, at0_0, rowOf]
  · apply Fin.ext; blk_simp [rowOf, at0_17]
  · apply Fin.ext; blk_simp [at0_17]

end Cert.Value

end
-- ==== Proof.KernelValue.lean ====
/-
  The kernel's result as one formula over its arguments: the fused features of each target row, gated by the two-stage
  transform of their mixed spectrum.
-/
module

public import proofs.«01_k».proof.Proof.HostReads
public import proofs.«01_k».proof.Proof.Arrays
public import proofs.«01_k».proof.Proof.FrontArray

@[expose] public section

noncomputable section

open Idealize.ShloMosaic Idealize.SL.Sem
open Cert.KernelIdeal Cert.KernelIdeal.Gen
open Cert.Fourier

namespace Cert.Value

section
variable (x0 : Vec Ideal S8192x3 .f32)
  (x1 : Vec Ideal S8192x256 .f32)
  (x2 : Vec Ideal S2048x3 .f32)
  (x3 : Vec Ideal S2048x512 .f32)
  (x4 : Vec Ideal S512x3 .f32)
  (x5 : Vec Ideal S512x1024 .f32)
  (x6 : Vec Ideal S8192x3 .f32)
  (x7 : Vec Ideal S256x512 .f32)
  (x8 : Vec Ideal S512 .f32)
  (x9 : Vec Ideal S512x512 .f32)
  (x10 : Vec Ideal S512 .f32)
  (x11 : Vec Ideal S1024x512 .f32)
  (x12 : Vec Ideal S512 .f32)
  (x13 : Vec Ideal S1536x512 .f32)
  (x14 : Vec Ideal S512 .f32)
  (x15 : Vec Ideal S512x512 .f32)
  (x16 : Vec Ideal S512 .f32)

/-- The fused features of target row `r`. -/
def features (r : Fin 8192) (c : Fin 512) : EReal := fuse
    (affine (fun k => blend (fun s => sq3 (fun i => x6 (ix2 r i)) (fun i => x0 (ix2 s i))) (fun s => x1 (ix2 s k)))
      (fun k c => x7 (ix2 k c)) (fun c => x8 (ix1 c)))
    (affine (fun k => blend (fun s => sq3 (fun i => x6 (ix2 r i)) (fun i => x2 (ix2 s i))) (fun s => x3 (ix2 s k)))
      (fun k c => x9 (ix2 k c)) (fun c => x10 (ix1 c)))
    (affine (fun k => blend (fun s => sq3 (fun i => x6 (ix2 r i)) (fun i => x4 (ix2 s i))) (fun s => x5 (ix2 s k)))
      (fun k c => x11 (ix2 k c)) (fun c => x12 (ix1 c)))
    (fun k c => x13 (ix2 k c)) (fun c => x14 (ix1 c)) (fun k c => x15 (ix2 k c)) (fun c => x16 (ix1 c)) c
end

section
variable (f : Fin 64 → Fin 128 → Fin 512 → EReal) (W V : Fin 512 → Fin 512 → EReal) (b d : Fin 512 → EReal)

/-- The mixed spectrum at frequency `k + 64 l`, through the two stages. -/
def mixedAt (k : Fin 64) (l : Fin 128) (j : Fin 512) : EReal :=
  mix (spectrum (fun l b => cosE (inner l b)) (fun l b => sinE (inner l b)) (fun b => cosE (twist k b)) (fun b => sinE (twist k b))
      (fun b c => ∑ a : Fin 64, cosE (outer k a) * f a b c) (fun b c => 0 - ∑ a : Fin 64, sinE (outer k a) * f a b c) l)
    W b V d j

/-- The gated features at row `128 a + b`. -/
def gatedAt (a : Fin 64) (r : Fin 128) (c : Fin 512) : EReal :=
  f a r c * (1 + Ideal.logistic
    (((∑ k : Fin 64, cosE (outer a k) * backRe (fun l b => cosE (inner l b)) (fun l b => sinE (inner l b))
          (fun b => cosE (twist k b)) (fun b => sinE (twist k b)) (mixedAt f W V b d k) r c)
      + ∑ k : Fin 64, sinE (outer a k) * backIm (fun l b => cosE (inner l b)) (fun l b => sinE (inner l b))
          (fun b => cosE (twist k b)) (fun b => sinE (twist k b)) (mixedAt f W V b d k) r c)
      * Ideal.ofBits .f32 0x39000000#32))
end

variable (m : (ℓ : Loc nD τ sig) → Buf (Elt Ideal) ℓ) (ρ : Dev nD → PrngReg) (c : Dev nD)

/-- An argument array as launched. -/
abbrev argAt (b : Ref sig .tc) : Buf (Elt Ideal) ((c.tc : Thread nD τ).loc b) := m ((c.tc : Thread nD τ).loc b)

/-- The launched arguments' fused features. -/
abbrev featuresOf (r : Fin 8192) (j : Fin 512) : EReal :=
  features (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) r j

/-- The front kernel's array holds the fused features. -/
theorem fused_at (r : Fin 8192) (j : Fin 512) :
    (W2 m ρ c (Proc.devRef .tc main_v8) : Vec Ideal S8192x512 .f32) (ix2 r j) = featuresOf m c r j := by
  have h := (W2_arr m ρ c 17).trans (array0 (V1 m ρ) c)
  have hA : ∀ b ∈ argRefs, V1 m ρ c b = argAt m c b := W1_args m ρ c
  refine (congrFun h (ix2 r j)).trans ?_
  unfold frontArray featuresOf features
  have t0 : ∀ i s, (V1 m ρ c main_v0 : Vec Ideal S3x8192 .f32) (ix2 i s) = (argAt m c main_arg0 : Vec Ideal S8192x3 .f32) (ix2 s i) := line0_v0 (W0 m ρ c)
  have t1 : ∀ i s, (V1 m ρ c main_v1 : Vec Ideal S3x2048 .f32) (ix2 i s) = (argAt m c main_arg2 : Vec Ideal S2048x3 .f32) (ix2 s i) := line0_v1 (W0 m ρ c)
  have t2 : ∀ i s, (V1 m ρ c main_v2 : Vec Ideal S3x512 .f32) (ix2 i s) = (argAt m c main_arg4 : Vec Ideal S512x3 .f32) (ix2 s i) := line0_v2 (W0 m ρ c)
  have t3 : ∀ k, (V1 m ρ c main_v3 : Vec Ideal S1x512 .f32) (ix2 0 k) = (argAt m c main_arg8 : Vec Ideal S512 .f32) (ix1 k) := line0_v3 (W0 m ρ c)
  have t4 : ∀ k, (V1 m ρ c main_v4 : Vec Ideal S1x512 .f32) (ix2 0 k) = (argAt m c main_arg10 : Vec Ideal S512 .f32) (ix1 k) := line0_v4 (W0 m ρ c)
  have t5 : ∀ k, (V1 m ρ c main_v5 : Vec Ideal S1x512 .f32) (ix2 0 k) = (argAt m c main_arg12 : Vec Ideal S512 .f32) (ix1 k) := line0_v5 (W0 m ρ c)
  have t6 : ∀ k, (V1 m ρ c main_v6 : Vec Ideal S1x512 .f32) (ix2 0 k) = (argAt m c main_arg14 : Vec Ideal S512 .f32) (ix1 k) := line0_v6 (W0 m ρ c)
  have t7 : ∀ k, (V1 m ρ c main_v7 : Vec Ideal S1x512 .f32) (ix2 0 k) = (argAt m c main_arg16 : Vec Ideal S512 .f32) (ix1 k) := line0_v7 (W0 m ρ c)
  rw [hA main_arg6 (by decide), hA main_arg1 (by decide), hA main_arg7 (by decide), hA main_arg3 (by decide), hA main_arg9 (by decide), hA main_arg5 (by decide), hA main_arg11 (by decide), hA main_arg13 (by decide), hA main_arg15 (by decide)]
  simp only [t0, t1, t2, t3, t4, t5, t6, t7]
  rfl

/-- The features in the folded layout, and their tables, at the boundary where the first transform kernel starts. -/
theorem folded_at (a : Fin 64) (r : Fin 128) (j : Fin 512) :
    (V3 m ρ c main_v51 : Vec Ideal S64x65536 .f32) (ix2 a (colAt r j)) = featuresOf m c (rowAt a r) j :=
  (line1_v51 (W2 m ρ c) a r j).trans (fused_at m ρ c (rowAt a r) j)

/-- Entries of the two products, from the entries of their operands. -/
theorem tableMul_of (x : Vec Ideal S64x64 .f32) (f : Vec Ideal S64x65536 .f32) (k : Fin 64) (j : Fin 65536) (g h : Fin 64 → EReal)
    (hx : ∀ a, x (ix2 k a) = g a) (hf : ∀ a, f (ix2 a j) = h a) : tableMul x f (ix2 k j) = ∑ a, g a * h a :=
  Finset.sum_congr rfl fun a _ => congrArg₂ (· * ·) (hx a) (hf a)
theorem tableNeg_of (x : Vec Ideal S64x64 .f32) (f : Vec Ideal S64x65536 .f32) (k : Fin 64) (j : Fin 65536) (g h : Fin 64 → EReal)
    (hx : ∀ a, x (ix2 k a) = g a) (hf : ∀ a, f (ix2 a j) = h a) : tableNeg x f (ix2 k j) = 0 - ∑ a, g a * h a :=
  congrArg (fun x : EReal => 0 - x) (tableMul_of x f k j g h hx hf)

/-- The first transform's real part, unfolded. -/
theorem first_re (k : Fin 64) (r : Fin 128) (j : Fin 512) : (V5 m ρ c main_v53 : Vec Ideal S8192x512 .f32) (ix2 (rowAt k r) j)
    = ∑ a : Fin 64, cosE (outer k a) * featuresOf m c (rowAt a r) j := by
  refine (line2_v53 (W4 m ρ c) k r j).trans ?_
  refine (congrFun ((W4_arr m ρ c 3).trans (array1_re (V3 m ρ) c)) (ix2 k (colAt r j))).trans ?_
  have h1 : ∀ a : Fin 64, (V3 m ρ c main_v43 : Vec Ideal S64x64 .f32) (ix2 k a) = cosE (outer k a) := line1_v43 (W2 m ρ c) k
  exact tableMul_of _ _ k (colAt r j) _ _ h1 (fun a => folded_at m ρ c a r j)

/-- The first transform's imaginary part, unfolded. -/
theorem first_im (k : Fin 64) (r : Fin 128) (j : Fin 512) : (V5 m ρ c main_v54 : Vec Ideal S8192x512 .f32) (ix2 (rowAt k r) j)
    = 0 - ∑ a : Fin 64, sinE (outer k a) * featuresOf m c (rowAt a r) j := by
  refine (line2_v54 (W4 m ρ c) k r j).trans ?_
  refine (congrFun ((W4_arr m ρ c 4).trans (array1_im (V3 m ρ) c)) (ix2 k (colAt r j))).trans ?_
  have h1 : ∀ a : Fin 64, (V3 m ρ c main_v44 : Vec Ideal S64x64 .f32) (ix2 k a) = sinE (outer k a) := line1_v44 (W2 m ρ c) k
  exact tableNeg_of _ _ k (colAt r j) _ _ h1 (fun a => folded_at m ρ c a r j)

/-- A table of the host line is untouched up to the middle kernel. -/
theorem table5 (b : Ref sig .tc) (h2 : b ∉ hostOps2_W) (h1 : ∀ w : Fin cfg1.W, Pipeline.arrRef spec1 w = b → (cfg1.win w).isOut = false) :
    V5 m ρ c b = V3 m ρ c b := (W5_of m ρ c b h2).trans (W4_of m ρ c b h1)

/-- A table of the host line is untouched up to the last kernel. -/
theorem table7 (b : Ref sig .tc) (h3 : b ∉ hostOps3_W) (h2' : ∀ w : Fin cfg2.W, Pipeline.arrRef spec2 w = b → (cfg2.win w).isOut = false)
    (h2 : b ∉ hostOps2_W) (h1 : ∀ w : Fin cfg1.W, Pipeline.arrRef spec1 w = b → (cfg1.win w).isOut = false) :
    V7 m ρ c b = V3 m ρ c b := (W7_of m ρ c b h3).trans ((W6_of m ρ c b h2').trans (table5 m ρ c b h2 h1))

theorem group_rowAt (k : Fin 64) (r : Fin 128) : groupOf (rowAt k r) = k := by
  apply Fin.ext; simp only [groupOf, rowAt]; omega
theorem place_rowAt (k : Fin 64) (r : Fin 128) : placeOf (rowAt k r) = r := by
  apply Fin.ext; simp only [placeOf, rowAt]; omega

/-- The launched arguments' features by group and row. -/
abbrev groupsOf (a : Fin 64) (r : Fin 128) (j : Fin 512) : EReal := featuresOf m c (rowAt a r) j
abbrev mat17 (k j : Fin 512) : EReal := (argAt m c main_arg17 : Vec Ideal S512x512 .f32) (ix2 k j)
abbrev vec18 (j : Fin 512) : EReal := (argAt m c main_arg18 : Vec Ideal S512 .f32) (ix1 j)
abbrev mat19 (k j : Fin 512) : EReal := (argAt m c main_arg19 : Vec Ideal S512x512 .f32) (ix2 k j)
abbrev vec20 (j : Fin 512) : EReal := (argAt m c main_arg20 : Vec Ideal S512 .f32) (ix1 j)

/-- What the middle kernel's tables and weights hold. -/
theorem mixed_at (k : Fin 64) :
    mixedGroup (V5 m ρ c main_v45) (V5 m ρ c main_v46) (V5 m ρ c main_v53) (V5 m ρ c main_v54) (V5 m ρ c main_v48) (V5 m ρ c main_v50)
        (V5 m ρ c main_arg17) (V5 m ρ c main_v55) (V5 m ρ c main_arg19) (V5 m ρ c main_v56) k
      = mixedAt (groupsOf m c) (mat17 m c) (mat19 m c) (vec18 m c) (vec20 m c) k := by
  funext r j
  unfold mixedGroup mixedAt
  rw [table5 m ρ c main_v45 (by decide) (by decide), table5 m ρ c main_v46 (by decide) (by decide),
    table5 m ρ c main_v48 (by decide) (by decide), table5 m ρ c main_v50 (by decide) (by decide)]
  have h45 : ∀ l b, (V3 m ρ c main_v45 : Vec Ideal S128x128 .f32) (ix2 l b) = cosE (inner l b) := line1_v45 (W2 m ρ c)
  have h46 : ∀ l b, (V3 m ρ c main_v46 : Vec Ideal S128x128 .f32) (ix2 l b) = sinE (inner l b) := line1_v46 (W2 m ρ c)
  have h48 : ∀ k b, (V3 m ρ c main_v48 : Vec Ideal S8192x1 .f32) (ix2 (rowAt k b) 0) = cosE (twist k b) := line1_v48 (W2 m ρ c)
  have h50 : ∀ k b, (V3 m ρ c main_v50 : Vec Ideal S8192x1 .f32) (ix2 (rowAt k b) 0) = sinE (twist k b) := line1_v50 (W2 m ρ c)
  have h18 : W4 m ρ c (Proc.devRef .tc main_arg18) = argAt m c main_arg18 := W4_args m ρ c main_arg18 (by decide)
  have h20 : W4 m ρ c (Proc.devRef .tc main_arg20) = argAt m c main_arg20 := W4_args m ρ c main_arg20 (by decide)
  have h55 : ∀ j, (V5 m ρ c main_v55 : Vec Ideal S1x512 .f32) (ix2 0 j) = vec18 m c j :=
    fun j => (line2_v55 (W4 m ρ c) j).trans (congrFun h18 (ix1 j))
  have h56 : ∀ j, (V5 m ρ c main_v56 : Vec Ideal S1x512 .f32) (ix2 0 j) = vec20 m c j :=
    fun j => (line2_v56 (W4 m ρ c) j).trans (congrFun h20 (ix1 j))
  have h17 : V5 m ρ c main_arg17 = argAt m c main_arg17 := W5_args m ρ c main_arg17 (by decide)
  have h19 : V5 m ρ c main_arg19 = argAt m c main_arg19 := W5_args m ρ c main_arg19 (by decide)
  have h53 : ∀ b j, (V5 m ρ c main_v53 : Vec Ideal S8192x512 .f32) (ix2 (rowAt k b) j) = ∑ a : Fin 64, cosE (outer k a) * groupsOf m c a b j := first_re m ρ c k
  have h54 : ∀ b j, (V5 m ρ c main_v54 : Vec Ideal S8192x512 .f32) (ix2 (rowAt k b) j) = 0 - ∑ a : Fin 64, sinE (outer k a) * groupsOf m c a b j := first_im m ρ c k
  rw [h17, h19]
  simp only [h45, h46, h48, h50, h55, h56, h53, h54]

/-- The middle kernel's real part, folded. -/
theorem second_re (k : Fin 64) (r : Fin 128) (j : Fin 512) : (V7 m ρ c main_v58 : Vec Ideal S64x65536 .f32) (ix2 k (colAt r j))
    = backRe (fun l b => cosE (inner l b)) (fun l b => sinE (inner l b)) (fun b => cosE (twist k b)) (fun b => sinE (twist k b))
        (mixedAt (groupsOf m c) (mat17 m c) (mat19 m c) (vec18 m c) (vec20 m c) k) r j := by
  refine (line3_v58 (W6 m ρ c) k r j).trans ?_
  refine (congrFun ((W6_arr m ρ c 10).trans (array2_re (V5 m ρ) c)) (ix2 (rowAt k r) j)).trans ?_
  unfold backReArray
  rw [show groupOf (ix2 (rowAt k r) j 0) = k from group_rowAt k r, show placeOf (ix2 (rowAt k r) j 0) = r from place_rowAt k r, mixed_at,
    table5 m ρ c main_v45 (by decide) (by decide), table5 m ρ c main_v46 (by decide) (by decide),
    table5 m ρ c main_v48 (by decide) (by decide), table5 m ρ c main_v50 (by decide) (by decide)]
  have h45 : ∀ l b, (V3 m ρ c main_v45 : Vec Ideal S128x128 .f32) (ix2 l b) = cosE (inner l b) := line1_v45 (W2 m ρ c)
  have h46 : ∀ l b, (V3 m ρ c main_v46 : Vec Ideal S128x128 .f32) (ix2 l b) = sinE (inner l b) := line1_v46 (W2 m ρ c)
  have h48 : ∀ k b, (V3 m ρ c main_v48 : Vec Ideal S8192x1 .f32) (ix2 (rowAt k b) 0) = cosE (twist k b) := line1_v48 (W2 m ρ c)
  have h50 : ∀ k b, (V3 m ρ c main_v50 : Vec Ideal S8192x1 .f32) (ix2 (rowAt k b) 0) = sinE (twist k b) := line1_v50 (W2 m ρ c)
  simp only [h45, h46, h48, h50]
  rfl

/-- The middle kernel's imaginary part, folded. -/
theorem second_im (k : Fin 64) (r : Fin 128) (j : Fin 512) : (V7 m ρ c main_v59 : Vec Ideal S64x65536 .f32) (ix2 k (colAt r j))
    = backIm (fun l b => cosE (inner l b)) (fun l b => sinE (inner l b)) (fun b => cosE (twist k b)) (fun b => sinE (twist k b))
        (mixedAt (groupsOf m c) (mat17 m c) (mat19 m c) (vec18 m c) (vec20 m c) k) r j := by
  refine (line3_v59 (W6 m ρ c) k r j).trans ?_
  refine (congrFun ((W6_arr m ρ c 11).trans (array2_im (V5 m ρ) c)) (ix2 (rowAt k r) j)).trans ?_
  unfold backImArray
  rw [show groupOf (ix2 (rowAt k r) j 0) = k from group_rowAt k r, show placeOf (ix2 (rowAt k r) j 0) = r from place_rowAt k r, mixed_at,
    table5 m ρ c main_v45 (by decide) (by decide), table5 m ρ c main_v46 (by decide) (by decide),
    table5 m ρ c main_v48 (by decide) (by decide), table5 m ρ c main_v50 (by decide) (by decide)]
  have h45 : ∀ l b, (V3 m ρ c main_v45 : Vec Ideal S128x128 .f32) (ix2 l b) = cosE (inner l b) := line1_v45 (W2 m ρ c)
  have h46 : ∀ l b, (V3 m ρ c main_v46 : Vec Ideal S128x128 .f32) (ix2 l b) = sinE (inner l b) := line1_v46 (W2 m ρ c)
  have h48 : ∀ k b, (V3 m ρ c main_v48 : Vec Ideal S8192x1 .f32) (ix2 (rowAt k b) 0) = cosE (twist k b) := line1_v48 (W2 m ρ c)
  have h50 : ∀ k b, (V3 m ρ c main_v50 : Vec Ideal S8192x1 .f32) (ix2 (rowAt k b) 0) = sinE (twist k b) := line1_v50 (W2 m ρ c)
  simp only [h45, h46, h48, h50]
  rfl

/-- The kernel's result at row `128 a + r`. -/
theorem result_at (a : Fin 64) (r : Fin 128) (j : Fin 512) :
    (W9 m ρ c (Proc.devRef .tc main_v61) : Vec Ideal S8192x512 .f32) (ix2 (rowAt a r) j)
      = gatedAt (groupsOf m c) (mat17 m c) (mat19 m c) (vec18 m c) (vec20 m c) a r j := by
  refine (line4_v61 (W8 m ρ c) a r j).trans ?_
  refine (congrFun ((W8_arr m ρ c 5).trans (array3 (V7 m ρ) c)) (ix2 a (colAt r j))).trans ?_
  unfold gated gatedAt
  rw [table7 m ρ c main_v43 (by decide) (by decide) (by decide) (by decide), table7 m ρ c main_v44 (by decide) (by decide) (by decide) (by decide),
    table7 m ρ c main_v51 (by decide) (by decide) (by decide) (by decide)]
  have h43 : ∀ a k, (V3 m ρ c main_v43 : Vec Ideal S64x64 .f32) (ix2 a k) = cosE (outer a k) := line1_v43 (W2 m ρ c)
  have h44 : ∀ a k, (V3 m ρ c main_v44 : Vec Ideal S64x64 .f32) (ix2 a k) = sinE (outer a k) := line1_v44 (W2 m ρ c)
  rw [show (V3 m ρ c main_v51 : Vec Ideal S64x65536 .f32) (ix2 (ix2 a (colAt r j) 0) (ix2 a (colAt r j) 1)) = groupsOf m c a r j
    from folded_at m ρ c a r j]
  refine congrArg (fun x : EReal => groupsOf m c a r j * (1 + Ideal.logistic (x * Ideal.ofBits .f32 0x39000000#32))) ?_
  refine congrArg₂ (· + ·) (Finset.sum_congr rfl fun k _ => ?_) (Finset.sum_congr rfl fun k _ => ?_)
  · exact congrArg₂ (· * ·) (h43 a k) (second_re m ρ c k r j)
  · exact congrArg₂ (· * ·) (h44 a k) (second_im m ρ c k r j)

end Cert.Value

end
-- ==== Proof.Bridge.lean ====
/-
  The two arrangements of the cosine sums agree on real features: the sums by quarters the kernel takes and the plain
  sums over all 8192 rows the reference takes.
-/
module

public import proofs.«01_k».proof.Proof.KernelValue

@[expose] public section

noncomputable section

open Idealize.ShloMosaic
open Cert.Fourier

namespace Cert.Value

/-- A sum of reals, seen among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real that is a real number. -/
def Real' (x : EReal) : Prop := ∃ r : ℝ, x = (r : EReal)

namespace Real'
theorem add {x y : EReal} (hx : Real' x) (hy : Real' y) : Real' (x + y) := by
  obtain ⟨a, rfl⟩ := hx; obtain ⟨b, rfl⟩ := hy; exact ⟨a + b, (EReal.coe_add a b).symm⟩
theorem sub {x y : EReal} (hx : Real' x) (hy : Real' y) : Real' (x - y) := by
  obtain ⟨a, rfl⟩ := hx; obtain ⟨b, rfl⟩ := hy; exact ⟨a - b, (EReal.coe_sub a b).symm⟩
theorem mul {x y : EReal} (hx : Real' x) (hy : Real' y) : Real' (x * y) := by
  obtain ⟨a, rfl⟩ := hx; obtain ⟨b, rfl⟩ := hy; exact ⟨a * b, (EReal.coe_mul a b).symm⟩
theorem max {x y : EReal} (hx : Real' x) (hy : Real' y) : Real' (Max.max x y) := by
  rcases max_choice x y with h | h <;> rw [h] <;> assumption
theorem zero : Real' 0 := ⟨0, rfl⟩
theorem one : Real' 1 := ⟨1, rfl⟩
theorem sum {ι : Type} (s : Finset ι) {f : ι → EReal} (h : ∀ i, Real' (f i)) : Real' (∑ i ∈ s, f i) := by
  choose g hg using h
  exact ⟨∑ i ∈ s, g i, by rw [coe_sum]; exact Finset.sum_congr rfl fun i _ => hg i⟩
theorem erf {x : EReal} (hx : Real' x) : Real' (Ideal.erf x) := by
  obtain ⟨a, rfl⟩ := hx; exact ⟨_, Ideal.erf_coe a⟩
end Real'

theorem Real'.affine {k n : ℕ} {x : Fin k → EReal} {W : Fin k → Fin n → EReal} {b : Fin n → EReal}
    (hx : ∀ i, Real' (x i)) (hW : ∀ i j, Real' (W i j)) (hb : ∀ j, Real' (b j)) (j : Fin n) : Real' (affine x W b j) :=
  (Real'.sum _ fun i => (hx i).mul (hW i j)).add (hb j)

theorem Real'.mix {x : Fin 512 → EReal} {W V : Fin 512 → Fin 512 → EReal} {b d : Fin 512 → EReal}
    (hx : ∀ i, Real' (x i)) (hW : ∀ i j, Real' (W i j)) (hb : ∀ j, Real' (b j)) (hV : ∀ i j, Real' (V i j))
    (hd : ∀ j, Real' (d j)) (j : Fin 512) : Real' (mix x W b V d j) :=
  Real'.affine (fun i => (Real'.affine hx hW hb i).max Real'.zero) hV hd j

/-- Half an angle's worth: the number one over the square root of two, rounded, is a real. -/
theorem real_half : Real' (Ideal.ofBits .f32 0x3F000000#32) :=
  ⟨1 / 2, by simp [Ideal.ofBits, Ideal.ieee, -EReal.coe_mul, -EReal.coe_neg]; norm_num⟩

theorem real_root : Real' (Ideal.ofBits .f32 0x3F3504F3#32) := by
  unfold Real'
  simp [Ideal.ofBits, Ideal.ieee, -EReal.coe_mul, -EReal.coe_neg]

theorem Real'.gelu {h : EReal} (hh : Real' h) : Real' (gelu h) :=
  (real_half.mul hh).mul (Real'.one.add (hh.mul real_root).erf)

theorem Real'.hidden {e0 e1 e2 : Fin 512 → EReal} {W : Fin 1536 → Fin 512 → EReal} {b : Fin 512 → EReal}
    (h0 : ∀ i, Real' (e0 i)) (h1 : ∀ i, Real' (e1 i)) (h2 : ∀ i, Real' (e2 i)) (hW : ∀ i j, Real' (W i j))
    (hb : ∀ j, Real' (b j)) (j : Fin 512) : Real' (hidden e0 e1 e2 W b j) :=
  (((Real'.sum _ fun i => (h0 i).mul (hW _ j)).add (Real'.sum _ fun i => (h1 i).mul (hW _ j))).add
    (Real'.sum _ fun i => (h2 i).mul (hW _ j))).add (hb j)

theorem Real'.fuse {e0 e1 e2 : Fin 512 → EReal} {W : Fin 1536 → Fin 512 → EReal} {b : Fin 512 → EReal}
    {V : Fin 512 → Fin 512 → EReal} {d : Fin 512 → EReal}
    (h0 : ∀ i, Real' (e0 i)) (h1 : ∀ i, Real' (e1 i)) (h2 : ∀ i, Real' (e2 i)) (hW : ∀ i j, Real' (W i j))
    (hb : ∀ j, Real' (b j)) (hV : ∀ i j, Real' (V i j)) (hd : ∀ j, Real' (d j)) (j : Fin 512) :
    Real' (fuse e0 e1 e2 W b V d j) :=
  Real'.affine (fun i => (Real'.hidden h0 h1 h2 hW hb i).gelu) hV hd j

theorem rows_split (g : Fin 8192 → ℝ) : ∑ s, g s = ∑ a : Fin 64, ∑ b : Fin 128, g (rowAt a b) := by
  have h := sum_rows (fun n => if h : n < 8192 then g ⟨n, h⟩ else 0)
  refine Eq.trans (Finset.sum_congr rfl fun s _ => ?_) (h.trans (Finset.sum_congr rfl fun a _ => Finset.sum_congr rfl fun b _ => ?_))
  · rw [dif_pos s.isLt]
  · rw [dif_pos (show a.val * 128 + b.val < 8192 by omega)]; rfl

theorem freqs_split (g : Fin 8192 → ℝ) : ∑ s, g s = ∑ k : Fin 64, ∑ l : Fin 128, g ⟨k.val + 64 * l.val, by omega⟩ := by
  have h := sum_freqs (fun n => if h : n < 8192 then g ⟨n, h⟩ else 0)
  refine Eq.trans (Finset.sum_congr rfl fun s _ => ?_) (h.trans (Finset.sum_congr rfl fun k _ => Finset.sum_congr rfl fun l _ => ?_))
  · rw [dif_pos s.isLt]
  · rw [dif_pos (show k.val + 64 * l.val < 8192 by omega)]

/-- The kernel's frequency `k + 64 l` of real features is the plain cosine sum over the rows. -/
theorem spectrum_forward (g : Fin 8192 → Fin 512 → ℝ) (k : Fin 64) (l : Fin 128) (j : Fin 512) (κ : Fin 8192)
    (hκ : κ.val = k.val + 64 * l.val) :
    spectrum (fun l b => cosE (inner l b)) (fun l b => sinE (inner l b)) (fun b => cosE (twist k b)) (fun b => sinE (twist k b))
      (fun b c => ∑ a : Fin 64, cosE (outer k a) * (g (rowAt a b) c : EReal))
      (fun b c => 0 - ∑ a : Fin 64, sinE (outer k a) * (g (rowAt a b) c : EReal)) l j
      = ∑ s : Fin 8192, ((Real.cos (((κ.val * s.val : ℕ) : ℝ) * (2 * Real.pi / 8192)) : ℝ) : EReal) * (g s j : EReal) := by
  have h := forward (fun a b => g (rowAt a b) j) k l
  have hs := rows_split (fun s : Fin 8192 => Real.cos (((κ.val * s.val : ℕ) : ℝ) * (2 * Real.pi / 8192)) * g s j)
  have e : (∑ a : Fin 64, ∑ b : Fin 128, Real.cos ((((a.val * 128 + b.val) * (k.val + 64 * l.val) : ℕ) : ℝ) * (2 * Real.pi / 8192)) * g (rowAt a b) j)
      = ∑ s : Fin 8192, Real.cos (((κ.val * s.val : ℕ) : ℝ) * (2 * Real.pi / 8192)) * g s j := by
    rw [hs]
    refine Finset.sum_congr rfl fun a _ => Finset.sum_congr rfl fun b _ => ?_
    rw [hκ, Nat.mul_comm]
    rfl
  rw [e] at h
  have h' := congrArg (fun r : ℝ => (r : EReal)) h
  simp only [coe_sum, EReal.coe_add, EReal.coe_mul, EReal.coe_sub, EReal.coe_zero] at h'
  simp only [spectrum, cosE, sinE]
  exact h'

/-- The kernel's sum back at row `128 a + b` of real frequencies is the plain cosine sum over the frequencies. -/
theorem back_backward (e : Fin 8192 → Fin 512 → ℝ) (y : Fin 64 → Fin 128 → Fin 512 → EReal) (a : Fin 64) (r : Fin 128) (c : Fin 512)
    (hy : ∀ k l j (κ : Fin 8192), κ.val = k.val + 64 * l.val → y k l j = (e κ j : EReal)) :
    (∑ k : Fin 64, cosE (outer a k) * backRe (fun l b => cosE (inner l b)) (fun l b => sinE (inner l b))
          (fun b => cosE (twist k b)) (fun b => sinE (twist k b)) (y k) r c)
      + (∑ k : Fin 64, sinE (outer a k) * backIm (fun l b => cosE (inner l b)) (fun l b => sinE (inner l b))
          (fun b => cosE (twist k b)) (fun b => sinE (twist k b)) (y k) r c)
      = ∑ s : Fin 8192, (((Real.cos ((((rowAt a r).val * s.val : ℕ) : ℝ) * (2 * Real.pi / 8192)) : ℝ) : EReal) * (e s c : EReal)) := by
  have hlt : ∀ (k : Fin 64) (l : Fin 128), k.val + 64 * l.val < 8192 := fun k l => by omega
  have h := backward (fun k l => e ⟨k.val + 64 * l.val, hlt k l⟩ c) a r
  have hs := freqs_split (fun s : Fin 8192 => Real.cos ((((rowAt a r).val * s.val : ℕ) : ℝ) * (2 * Real.pi / 8192)) * e s c)
  have e' : (∑ k : Fin 64, ∑ l : Fin 128, Real.cos ((((a.val * 128 + r.val) * (k.val + 64 * l.val) : ℕ) : ℝ) * (2 * Real.pi / 8192)) * e ⟨k.val + 64 * l.val, hlt k l⟩ c)
      = ∑ s : Fin 8192, Real.cos ((((rowAt a r).val * s.val : ℕ) : ℝ) * (2 * Real.pi / 8192)) * e s c := by
    rw [hs]
    rfl
  rw [e'] at h
  have h' := congrArg (fun r : ℝ => (r : EReal)) h
  simp only [coe_sum, EReal.coe_add, EReal.coe_mul, EReal.coe_sub, EReal.coe_zero] at h'
  have hy' : ∀ k l j, y k l j = (e ⟨k.val + 64 * l.val, hlt k l⟩ j : EReal) := fun k l j => hy k l j _ rfl
  simp only [backRe, backIm, cosE, sinE, hy']
  exact h'

/-- The kernel's gated features are the reference's, on real features and weights. -/
theorem gated_plain (F : Fin 8192 → Fin 512 → EReal) (W V : Fin 512 → Fin 512 → EReal) (b d : Fin 512 → EReal)
    (hF : ∀ s j, Real' (F s j)) (hW : ∀ i j, Real' (W i j)) (hb : ∀ j, Real' (b j)) (hV : ∀ i j, Real' (V i j))
    (hd : ∀ j, Real' (d j)) (a : Fin 64) (r : Fin 128) (c : Fin 512) :
    gatedAt (fun a r j => F (rowAt a r) j) W V b d a r c
      = F (rowAt a r) c + F (rowAt a r) c * Ideal.div 1 (1 + Ideal.exp (-(Ideal.div (∑ s : Fin 8192,
          ((Real.cos ((((rowAt a r).val * s.val : ℕ) : ℝ) * (2 * Real.pi / 8192)) : ℝ) : EReal)
          * mix (fun i => ∑ u : Fin 8192, ((Real.cos (((s.val * u.val : ℕ) : ℝ) * (2 * Real.pi / 8192)) : ℝ) : EReal) * F u i) W b V d c)
            (Ideal.ofBits .f32 0x46000000#32)))) := by
  choose g hg using hF
  have hmix : ∀ (s : Fin 8192) j, Real' (mix (fun i => ∑ u : Fin 8192, ((Real.cos (((s.val * u.val : ℕ) : ℝ) * (2 * Real.pi / 8192)) : ℝ) : EReal) * F u i) W b V d j) :=
    fun s j => Real'.mix (fun i => Real'.sum _ fun u => Real'.mul ⟨_, rfl⟩ ⟨g u i, hg u i⟩) hW hb hV hd j
  choose e he using hmix
  have hy : ∀ (k : Fin 64) (l : Fin 128) j (κ : Fin 8192), κ.val = k.val + 64 * l.val →
      mixedAt (fun a r j => F (rowAt a r) j) W V b d k l j = (e κ j : EReal) := by
    intro k l j κ hκ
    rw [← he]
    unfold mixedAt
    refine congrArg (fun x => mix x W b V d j) (funext fun i => ?_)
    simp only [hg]
    exact spectrum_forward g k l i κ hκ
  unfold gatedAt
  rw [back_backward e _ a r c hy]
  simp only [he]
  rw [hg, word_inv_8192, word_8192]
  have hsum : Real' (∑ s : Fin 8192, ((Real.cos ((((rowAt a r).val * s.val : ℕ) : ℝ) * (2 * Real.pi / 8192)) : ℝ) : EReal) * (e s c : EReal)) :=
    Real'.sum _ fun s => Real'.mul ⟨_, rfl⟩ ⟨_, rfl⟩
  obtain ⟨q, hq⟩ := hsum
  rw [hq]
  have hdiv : Ideal.div (q : EReal) ((8192 : ℝ) : EReal) = ((q / 8192 : ℝ) : EReal) := by
    rw [Ideal.div, if_neg (by norm_num), ← EReal.coe_inv, ← EReal.coe_mul, div_eq_mul_inv]
  have hmul : (q : EReal) * ((1 / 8192 : ℝ) : EReal) = ((q / 8192 : ℝ) : EReal) := by
    rw [← EReal.coe_mul, mul_one_div]
  have hpos : 0 < 1 + Real.exp (-(q / 8192)) := by positivity
  have hlog : Ideal.div 1 (1 + Ideal.exp (-((q / 8192 : ℝ) : EReal))) = ((1 * (1 + Real.exp (-(q / 8192)))⁻¹ : ℝ) : EReal) := by
    rw [← EReal.coe_neg]
    show Ideal.div 1 (1 + ((Real.exp (-(q / 8192)) : ℝ) : EReal)) = _
    rw [← EReal.coe_one, ← EReal.coe_add, Ideal.div, if_neg (by exact_mod_cast hpos.ne'), ← EReal.coe_inv, ← EReal.coe_mul]
  rw [hdiv, hmul, Ideal.logistic, hlog, ← EReal.coe_one, ← EReal.coe_add, ← EReal.coe_mul, ← EReal.coe_mul, ← EReal.coe_add]
  exact congrArg (fun x : ℝ => (x : EReal)) (by ring)

end Cert.Value

end
-- ==== Proof.Nearest.lean ====
/-
  The three nearest points. Where the three least entries of a row are distinct and below all others, taking the least
  entry away three times finds them, so the weighted blend over the whole row is the blend over those three.
-/
module

public import proofs.«01_k».proof.Proof.Bridge

@[expose] public section

noncomputable section

open Idealize.ShloMosaic

namespace Cert.Value

theorem least_eq {n : ℕ} (D : Fin n → EReal) (i : Fin n) (h : ∀ s, D i ≤ D s) : least D = D i := by
  unfold least
  refine le_antisymm ((Finset.fold_min_le (D i)).mpr (Or.inr ⟨i, Finset.mem_univ i, le_rfl⟩)) ?_
  exact (Finset.le_fold_min (D i)).mpr ⟨le_top, fun s _ => h s⟩

/-- The three nearest entries of a row, in order, each strictly below the next and the last strictly below all others. -/
structure Nearest {n : ℕ} (D : Fin n → EReal) (i : Fin 3 → Fin n) : Prop where
  first : D (i 0) < D (i 1)
  second : D (i 1) < D (i 2)
  rest : ∀ s, s ≠ i 0 → s ≠ i 1 → s ≠ i 2 → D (i 2) < D s

namespace Nearest
variable {n : ℕ} {D : Fin n → EReal} {i : Fin 3 → Fin n}

theorem cases (h : Nearest D i) (s : Fin n) : s = i 0 ∨ s = i 1 ∨ s = i 2 ∨ D (i 2) < D s := by
  by_cases h0 : s = i 0
  · exact Or.inl h0
  by_cases h1 : s = i 1
  · exact Or.inr (Or.inl h1)
  by_cases h2 : s = i 2
  · exact Or.inr (Or.inr (Or.inl h2))
  exact Or.inr (Or.inr (Or.inr (h.rest s h0 h1 h2)))

theorem least (h : Nearest D i) : Cert.Value.least D = D (i 0) := by
  refine least_eq D (i 0) fun s => ?_
  rcases h.cases s with rfl | rfl | rfl | hs
  · exact le_rfl
  · exact h.first.le
  · exact (h.first.trans h.second).le
  · exact ((h.first.trans h.second).trans hs).le

theorem without_zero (h : Nearest D i) : without D (i 0) = ⊤ := by unfold without; rw [h.least, if_pos rfl]

theorem without_of_lt (h : Nearest D i) (s : Fin n) (hs : D (i 0) < D s) : without D s = D s := by
  unfold without; rw [h.least, if_neg hs.ne']

theorem least_without (h : Nearest D i) : Cert.Value.least (without D) = D (i 1) := by
  have e := h.without_of_lt (i 1) h.first
  rw [least_eq (without D) (i 1) fun s => ?_, e]
  rw [e]
  rcases h.cases s with rfl | rfl | rfl | hs
  · rw [h.without_zero]; exact le_top
  · rw [e]
  · rw [h.without_of_lt _ (h.first.trans h.second)]; exact h.second.le
  · rw [h.without_of_lt _ ((h.first.trans h.second).trans hs)]; exact (h.second.trans hs).le

theorem third (h : Nearest D i) : Cert.Value.third D = D (i 2) := by
  have k : ∀ s, D (i 1) < D s → without (without D) s = D s := fun s hs => by
    have hs' := h.without_of_lt s (h.first.trans hs)
    unfold without at hs' ⊢
    rw [show Cert.Value.least (fun s => if D s = Cert.Value.least D then ⊤ else D s) = D (i 1) from h.least_without, hs', if_neg hs.ne']
  have t : ∀ s, without D s = ⊤ ∨ without D s = D (i 1) → without (without D) s = ⊤ := fun s hs => by
    rcases hs with hs | hs
    · rw [without, hs]; split <;> rfl
    · rw [without, hs, h.least_without, if_pos rfl]
  unfold Cert.Value.third
  rw [least_eq _ (i 2) fun s => ?_, k _ h.second]
  rw [k _ h.second]
  rcases h.cases s with rfl | rfl | rfl | hs
  · rw [t _ (Or.inl h.without_zero)]; exact le_top
  · rw [t _ (Or.inr (h.without_of_lt _ h.first))]; exact le_top
  · rw [k _ h.second]
  · rw [k _ (h.second.trans hs)]; exact hs.le

theorem ne01 (h : Nearest D i) : i 0 ≠ i 1 := fun e => (e ▸ h.first).ne rfl
theorem ne12 (h : Nearest D i) : i 1 ≠ i 2 := fun e => (e ▸ h.second).ne rfl
theorem ne02 (h : Nearest D i) : i 0 ≠ i 2 := fun e => (h.first.trans h.second).ne (congrArg D e)

theorem weight_at (h : Nearest D i) (j : Fin 3) : weight D (i j) = Ideal.div 1 (D (i j) + eps) := by
  have hle : D (i j) ≤ Cert.Value.third D := by
    rw [h.third]
    match j with
    | 0 => exact (h.first.trans h.second).le
    | 1 => exact h.second.le
    | 2 => exact le_rfl
  rw [weight, if_pos hle]

/-- A sum over the whole row of the weights times anything is the sum over the three. -/
theorem sum_weights (h : Nearest D i) (G : Fin n → EReal) :
    ∑ s, weight D s * G s = ∑ j : Fin 3, weight D (i j) * G (i j) := by
  classical
  have hz : ∀ s ∈ Finset.univ, s ∉ ({i 0, i 1, i 2} : Finset (Fin n)) → weight D s * G s = 0 := by
    intro s _ hs
    simp only [Finset.mem_insert, Finset.mem_singleton, not_or] at hs
    rw [weight, h.third, if_neg (not_le.mpr (h.rest s hs.1 hs.2.1 hs.2.2)), zero_mul]
  rw [← Finset.sum_subset (Finset.subset_univ _) hz, Finset.sum_insert, Finset.sum_insert, Finset.sum_singleton, Fin.sum_univ_three, add_assoc]
  · simpa using h.ne12
  · simpa using ⟨h.ne01, h.ne02⟩

end Nearest

theorem eps_real : ∃ e : ℝ, 0 < e ∧ eps = (e : EReal) := by
  refine ⟨11258999 / 2 ^ 50, by norm_num, ?_⟩
  unfold eps
  simp [Ideal.ofBits, Ideal.ieee, -EReal.coe_mul, -EReal.coe_neg]; norm_num

/-- The inverse of a distance plus the small number: a positive real. -/
theorem inverse_real {x : EReal} (d : ℝ) (hd : 0 ≤ d) (hx : x = (d : EReal)) :
    ∃ w : ℝ, 0 < w ∧ Ideal.div 1 (x + eps) = (w : EReal) := by
  obtain ⟨e, he, hee⟩ := eps_real
  refine ⟨1 * (d + e)⁻¹, by positivity, ?_⟩
  have hne : d + e ≠ 0 := by positivity
  rw [hx, hee, ← EReal.coe_add, Ideal.div, if_neg (by exact_mod_cast hne), ← EReal.coe_one, ← EReal.coe_inv, ← EReal.coe_mul]

/-- The blend over the row is the blend over the three nearest, each weight divided by the sum of the three. -/
theorem blend_nearest {n : ℕ} (D G : Fin n → EReal) (i : Fin 3 → Fin n) (h : Nearest D i)
    (hD : ∀ s, ∃ d : ℝ, 0 ≤ d ∧ D s = (d : EReal)) (hG : ∀ s, Real' (G s)) :
    blend D G = ∑ j : Fin 3, Ideal.div (Ideal.div 1 (D (i j) + eps)) (∑ k : Fin 3, Ideal.div 1 (D (i k) + eps)) * G (i j) := by
  have hw : ∀ j : Fin 3, ∃ w : ℝ, 0 < w ∧ Ideal.div 1 (D (i j) + eps) = (w : EReal) := fun j => by
    obtain ⟨d, hd, e⟩ := hD (i j)
    exact inverse_real d hd e
  choose w hpos hw using hw
  choose g hg using hG
  have h1 := h.sum_weights (fun _ => 1)
  simp only [mul_one] at h1
  rw [blend, h.sum_weights G, h1]
  simp only [h.weight_at, hw, hg, ← EReal.coe_mul, ← coe_sum]
  have hs : 0 < ∑ j, w j := by rw [Fin.sum_univ_three]; have := hpos 0; have := hpos 1; have := hpos 2; linarith
  have hdiv : ∀ x : ℝ, Ideal.div (x : EReal) ((∑ j, w j : ℝ) : EReal) = ((x * (∑ j, w j)⁻¹ : ℝ) : EReal) := fun x => by
    rw [Ideal.div, if_neg (by exact_mod_cast hs.ne'), ← EReal.coe_inv, ← EReal.coe_mul]
  rw [← EReal.coe_one, hdiv]
  simp only [hdiv, ← EReal.coe_mul, ← coe_sum]
  refine congrArg (fun x : ℝ => (x : EReal)) ?_
  rw [Finset.sum_mul]
  exact Finset.sum_congr rfl fun j _ => by ring

theorem real_blend {n : ℕ} (D G : Fin n → EReal) (i : Fin 3 → Fin n) (h : Nearest D i)
    (hD : ∀ s, ∃ d : ℝ, 0 ≤ d ∧ D s = (d : EReal)) (hG : ∀ s, Real' (G s)) : Real' (blend D G) := by
  have hw : ∀ j : Fin 3, ∃ w : ℝ, 0 < w ∧ Ideal.div 1 (D (i j) + eps) = (w : EReal) := fun j => by
    obtain ⟨d, hd, e⟩ := hD (i j)
    exact inverse_real d hd e
  choose w hpos hw using hw
  rw [blend_nearest D G i h hD hG]
  refine Real'.sum _ fun j => Real'.mul ?_ (hG _)
  have hs : 0 < ∑ j, w j := by rw [Fin.sum_univ_three]; have := hpos 0; have := hpos 1; have := hpos 2; linarith
  simp only [hw, ← coe_sum]
  exact ⟨w j * (∑ j, w j)⁻¹, by rw [Ideal.div, if_neg (by exact_mod_cast hs.ne'), ← EReal.coe_inv, ← EReal.coe_mul]⟩

/-- The squared distance of two real points is a real that is not negative. -/
theorem sq3_real (p q : Fin 3 → EReal) (hp : ∀ k, Real' (p k)) (hq : ∀ k, Real' (q k)) : ∃ d : ℝ, 0 ≤ d ∧ sq3 p q = (d : EReal) := by
  choose a ha using hp
  choose b hb using hq
  refine ⟨(a 0 - b 0) * (a 0 - b 0) + (a 1 - b 1) * (a 1 - b 1) + (a 2 - b 2) * (a 2 - b 2), by
    have := mul_self_nonneg (a 0 - b 0); have := mul_self_nonneg (a 1 - b 1); have := mul_self_nonneg (a 2 - b 2); linarith, ?_⟩
  simp only [sq3, ha, hb, ← EReal.coe_sub, ← EReal.coe_mul, ← EReal.coe_add]

end Cert.Value

end
-- ==== Proof.Rows.lean ====
/-
  Reading the host's top-k of a matrix's rows and its gather of a matrix's rows, at an index.
-/
module

public import proofs.«01_k».proof.Proof.Nearest
public import Idealize.ShloMosaic.Lib.SortFacts

@[expose] public section

noncomputable section

open Idealize.ShloMosaic

namespace Cert.Value

/-- The order in which a stable sort from greatest to least takes a row's entries. -/
def order {n : ℕ} (row : Fin n → EReal) : Fin n → Fin n :=
  sortedFrom fun k k' => (FloatOps.cmpfTotal (F := Ideal) (φ := .f32) .gt (row k) (row k')) == 1#1

theorem gt_iff (a b : EReal) : (((FloatOps.cmpfTotal (F := Ideal) (φ := .f32) .gt a b) == 1#1) = true) ↔ b < a := by
  have e : FloatOps.cmpfTotal (F := Ideal) (φ := .f32) .gt a b = BitVec.ofBool (decide (a > b)) := rfl
  rw [e]
  by_cases h : b < a <;> simp [h]

/-- An entry taken later is not greater than an entry taken earlier. -/
theorem order_le {n : ℕ} (row : Fin n → EReal) (i j : Fin n) (hij : i < j) : row (order row j) ≤ row (order row i) := by
  have h := sortedFrom_noInversion
    (fun k k' => (FloatOps.cmpfTotal (F := Ideal) (φ := .f32) .gt (row k) (row k')) == 1#1)
    (fun k k' => (FloatOps.cmpfTotal (F := Ideal) (φ := .f32) .gt (row k) (row k')) == 1#1)
    (fun a b h => by rw [gt_iff] at h; rw [Bool.eq_false_iff, ne_eq, gt_iff]; exact h.asymm)
    (fun a b h => h)
    (fun a b c h1 h2 => by
      rw [Bool.eq_false_iff, ne_eq, gt_iff, not_lt] at *
      exact h1.trans h2) i j hij
  rw [Bool.eq_false_iff, ne_eq, gt_iff, not_lt] at h
  exact h

/-- Where a row's first four, greatest first, are strictly decreasing, its first three are the nearest three of the row's
    negation. -/
theorem nearest_of_order {n : ℕ} (D row : Fin n → EReal) (hrow : ∀ s, row s = -(D s)) (hn : 4 ≤ n)
    (hs : ∀ j : Fin 3, row (order row ⟨j.val + 1, by omega⟩) < row (order row ⟨j.val, by omega⟩)) :
    Nearest D (fun j => order row ⟨j.val, by omega⟩) := by
  have hlt : ∀ a b, row a < row b → D b < D a := fun a b h => by rw [hrow, hrow] at h; exact EReal.neg_lt_neg_iff.mp h
  have hle : ∀ a b, row a ≤ row b → D b ≤ D a := fun a b h => by rw [hrow, hrow] at h; exact EReal.neg_le_neg_iff.mp h
  refine ⟨hlt _ _ (hs 0), hlt _ _ (hs 1), fun s h0 h1 h2 => ?_⟩
  obtain ⟨t, rfl⟩ := sortedFrom_surjective (fun k k' => (FloatOps.cmpfTotal (F := Ideal) (φ := .f32) .gt (row k) (row k')) == 1#1) s
  change order row t ≠ _ at h0 h1 h2
  show D (order row ⟨2, by omega⟩) < D (order row t)
  have t0 : t.val ≠ 0 := fun e => h0 (congrArg (order row) (Fin.ext e))
  have t1 : t.val ≠ 1 := fun e => h1 (congrArg (order row) (Fin.ext e))
  have t2 : t.val ≠ 2 := fun e => h2 (congrArg (order row) (Fin.ext e))
  refine lt_of_lt_of_le (hlt _ _ (hs 2)) (hle _ _ ?_)
  rcases Nat.lt_or_ge 3 t.val with h | h
  · exact order_le row ⟨3, by omega⟩ t h
  · have : t = ⟨3, by omega⟩ := Fin.ext (by dsimp only; omega)
    rw [this]; exact le_rfl

theorem along_ix2 {m n : ℕ} (r : Fin m) (c s : Fin n) (h : 1 < 2) :
    (ix2 r c : (⟨2, ![m, n]⟩ : Shape).Idx).along ⟨1, h⟩ s = ix2 r s := by
  funext a
  match a with
  | ⟨0, _⟩ => exact Function.update_of_ne (by simp) _ _
  | ⟨1, _⟩ => exact Function.update_self _ _ _

theorem sorted_values {m n : ℕ} (x : Vec Ideal ⟨2, ![m, n]⟩ .f32) (y : IVec ⟨2, ![m, n]⟩ 32) (r : Fin m) (c : Fin n) :
    (Host.sort2 ⟨2, ![m, n]⟩ 1 (fun l r => FloatOps.cmpfTotal (F := Ideal) (φ := .f32) .gt l.1 r.1) x y).1 (ix2 r c)
      = x (ix2 r (order (fun s => x (ix2 r s)) c)) := by
  unfold Host.sort2
  rw [dif_pos (show 1 < (⟨2, ![m, n]⟩ : Shape).rank from Nat.one_lt_two)]
  have e : ∀ f : Fin n → (⟨2, ![m, n]⟩ : Shape).Idx, f = (fun s => ix2 r s) →
      x (f (sortedFrom (fun k k' => (FloatOps.cmpfTotal (F := Ideal) (φ := .f32) .gt (x (f k)) (x (f k'))) == 1#1) c))
        = x (ix2 r (order (fun s => x (ix2 r s)) c)) := by
    rintro _ rfl
    rfl
  exact e (fun s => (ix2 r c : (⟨2, ![m, n]⟩ : Shape).Idx).along ⟨1, Nat.one_lt_two⟩ s) (funext fun s => along_ix2 r c s _)

theorem sorted_indices {m n : ℕ} (x : Vec Ideal ⟨2, ![m, n]⟩ .f32) (y : IVec ⟨2, ![m, n]⟩ 32) (r : Fin m) (c : Fin n) :
    (Host.sort2 ⟨2, ![m, n]⟩ 1 (fun l r => FloatOps.cmpfTotal (F := Ideal) (φ := .f32) .gt l.1 r.1) x y).2 (ix2 r c)
      = y (ix2 r (order (fun s => x (ix2 r s)) c)) := by
  unfold Host.sort2
  rw [dif_pos (show 1 < (⟨2, ![m, n]⟩ : Shape).rank from Nat.one_lt_two)]
  have e : ∀ f : Fin n → (⟨2, ![m, n]⟩ : Shape).Idx, f = (fun s => ix2 r s) →
      y (f (sortedFrom (fun k k' => (FloatOps.cmpfTotal (F := Ideal) (φ := .f32) .gt (x (f k)) (x (f k'))) == 1#1) c))
        = y (ix2 r (order (fun s => x (ix2 r s)) c)) := by
    rintro _ rfl
    rfl
  exact e (fun s => (ix2 r c : (⟨2, ![m, n]⟩ : Shape).Idx).along ⟨1, Nat.one_lt_two⟩ s) (funext fun s => along_ix2 r c s _)

theorem slice_ix2 {α : Type} {m n k : ℕ} (x : (⟨2, ![m, n]⟩ : Shape).Idx → α) (h : (⟨2, ![m, n]⟩ : Shape).Slices (fun _ => 0) ⟨2, ![m, k]⟩)
    (r : Fin m) (j : Fin k) (hj : j.val < n) : extractStridedSlice ⟨2, ![m, k]⟩ (fun _ => 0) x h (ix2 r j) = x (ix2 r ⟨j.val, hj⟩) := by
  unfold extractStridedSlice
  refine congrArg x (funext fun a => Fin.ext ?_)
  match a with
  | ⟨0, _⟩ => exact Nat.zero_add _
  | ⟨1, _⟩ => exact Nat.zero_add _

theorem topK_values {m n k : ℕ} (x : Vec Ideal ⟨2, ![m, n]⟩ .f32) (h : (⟨2, ![m, n]⟩ : Shape).Slices (fun _ => 0) ⟨2, ![m, k]⟩)
    (r : Fin m) (j : Fin k) (hj : j.val < n) :
    (Host.topK ⟨2, ![m, k]⟩ 1 (FloatOps.cmpfTotal (F := Ideal) (φ := .f32) .gt) x h).1 (ix2 r j)
      = x (ix2 r (order (fun s => x (ix2 r s)) ⟨j.val, hj⟩)) := by
  unfold Host.topK
  dsimp only
  refine (slice_ix2 _ h r j hj).trans ?_
  exact sorted_values x _ r ⟨j.val, hj⟩

theorem topK_indices {m n k : ℕ} (x : Vec Ideal ⟨2, ![m, n]⟩ .f32) (h : (⟨2, ![m, n]⟩ : Shape).Slices (fun _ => 0) ⟨2, ![m, k]⟩)
    (r : Fin m) (j : Fin k) (hj : j.val < n) :
    (Host.topK ⟨2, ![m, k]⟩ 1 (FloatOps.cmpfTotal (F := Ideal) (φ := .f32) .gt) x h).2 (ix2 r j)
      = BitVec.ofNat 32 (order (fun s => x (ix2 r s)) ⟨j.val, hj⟩).val := by
  unfold Host.topK
  dsimp only
  refine (slice_ix2 _ h r j hj).trans ?_
  refine (sorted_indices x _ r ⟨j.val, hj⟩).trans ?_
  rw [dif_pos (show 1 < (⟨2, ![m, n]⟩ : Shape).rank from Nat.one_lt_two)]
  rfl

/-- A row of a matrix, gathered at an index word in range. -/
theorem gather_row {α : Type} {N C m k : ℕ}
    (wf : GatherDims.WF ⟨2, ![N, C]⟩ ⟨3, ![m, k, 1]⟩ ⟨3, ![m, k, C]⟩ [2] [0] [] [0] [] 2 ![1, C])
    (x : (⟨2, ![N, C]⟩ : Shape).Idx → α) (idx : IVec ⟨3, ![m, k, 1]⟩ 32) (r : Fin m) (j : Fin k) (c : Fin C) (s : Fin N)
    (hN : N ≤ 2 ^ 31) (hs : idx (ix3 r j 0) = BitVec.ofNat 32 s.val) :
    Host.gather ⟨[2], [0], [], [], [0], 2, ![1, C], wf⟩ x idx (ix3 r j c) = x (ix2 s c) := by
  unfold Host.gather
  refine congrArg x (funext fun a => Fin.ext ?_)
  match a with
  | ⟨0, _⟩ =>
    have hi : GatherDims.siIdx (⟨[2], [0], [], [], [0], 2, ![1, C], wf⟩ : GatherDims ⟨2, ![N, C]⟩ ⟨3, ![m, k, 1]⟩ ⟨3, ![m, k, C]⟩) (ix3 r j c) ⟨0, Nat.one_pos⟩ = ix3 r j 0 := by
      funext b
      match b with
      | ⟨0, _⟩ => rfl
      | ⟨1, _⟩ => rfl
      | ⟨2, _⟩ => rfl
    show min (idx (GatherDims.siIdx (⟨[2], [0], [], [], [0], 2, ![1, C], wf⟩ : GatherDims ⟨2, ![N, C]⟩ ⟨3, ![m, k, 1]⟩ ⟨3, ![m, k, C]⟩) (ix3 r j c) ⟨0, Nat.one_pos⟩)).toInt.toNat (N - 1) + 0 + 0 = s.val
    rw [hi, hs, toInt_small _ (lt_of_lt_of_le s.isLt hN)]
    have := s.isLt
    simp only [Int.toNat_natCast]
    omega
  | ⟨1, _⟩ =>
    show 0 + 0 + c.val = c.val
    omega

/-- An index word in range is not negative, so the wrap of negative indices leaves it alone. -/
theorem wrap_small (n : ℕ) (hn : n < 2 ^ 31) (w : BitVec 32) :
    Scalar.select (IntOp.cmpi .slt (BitVec.ofNat 32 n) 0#32) w (BitVec.ofNat 32 n) = BitVec.ofNat 32 n := by
  have h : IntOp.cmpi .slt (BitVec.ofNat 32 n) 0#32 = 0#1 := by
    show BitVec.ofBool ((BitVec.ofNat 32 n).slt 0#32) = 0#1
    have : (BitVec.ofNat 32 n).slt 0#32 = false := by
      rw [BitVec.slt_eq_decide, toInt_small n hn]
      simp
    rw [this]; rfl
  rw [h]; rfl

end Cert.Value

end
-- ==== Proof.Interp.lean ====
/-
  Interpolation from one set of points, for a set of any size: the nearest three in the order of a sort, and the weighted
  rows projected, from the entries of the arrays on the way.
-/
module

public import proofs.«01_k».proof.Proof.Rows

@[expose] public section

noncomputable section

open Idealize.ShloMosaic

namespace Cert.Value

section
variable {n : ℕ} (hn : 4 ≤ n) (C : Vec Ideal ⟨2, ![n, 3]⟩ .f32) (X : Vec Ideal ⟨2, ![8192, 3]⟩ .f32) (r : Fin 8192)

/-- The squared distance of target `r` from source `s`. -/
abbrev away (s : Fin n) : EReal := sq3 (fun k => X (ix2 r k)) (fun k => C (ix2 s k))

/-- The source that comes `j`-th in the order of the negated distances, greatest first. -/
def near (j : Fin 3) : Fin n := order (fun s => -(away C X r s)) ⟨j.val, by omega⟩

/-- The first four negated distances, greatest first, are strictly decreasing. -/
def Apart : Prop := ∀ j : Fin 3, -(away C X r (order (fun s => -(away C X r s)) ⟨j.val + 1, by omega⟩))
  < -(away C X r (order (fun s => -(away C X r s)) ⟨j.val, by omega⟩))

/-- Where the first four are distinct, the first three are the three nearest. -/
theorem near_nearest (h : Apart hn C X r) : Nearest (away C X r) (near hn C X r) :=
  nearest_of_order (away C X r) (fun s => -(away C X r s)) (fun _ => rfl) hn h

/-- The indices that a selection of the greatest three negated distances gives. -/
theorem near_index (v : Vec Ideal ⟨2, ![8192, n]⟩ .f32) (hv : ∀ s, v (ix2 r s) = -(away C X r s))
    (h : (⟨2, ![8192, n]⟩ : Shape).Slices (fun _ => 0) ⟨2, ![8192, 3]⟩) (j : Fin 3) :
    (Host.topK ⟨2, ![8192, 3]⟩ 1 (FloatOps.cmpfTotal (F := Ideal) (φ := .f32) .gt) v h).2 (ix2 r j)
      = BitVec.ofNat 32 (near hn C X r j).val := by
  have e : (fun s => v (ix2 r s)) = fun s => -(away C X r s) := funext hv
  have t := topK_indices v h r j (by omega)
  rw [e] at t
  exact t

/-- Real coordinates have real distances that are not negative. -/
theorem away_real (hC : ∀ i, Real' (C i)) (hX : ∀ i, Real' (X i)) (s : Fin n) : ∃ d : ℝ, 0 ≤ d ∧ away C X r s = (d : EReal) :=
  sq3_real _ _ (fun _ => hX _) (fun _ => hC _)

variable {p q : ℕ} (F : Vec Ideal ⟨2, ![n, p]⟩ .f32) (W : Fin p → Fin q → EReal) (b : Fin q → EReal)

/-- A row of weighted neighbours, projected, is the blend over the whole row, projected. -/
theorem blend_read (hA : Apart hn C X r) (hC : ∀ i, Real' (C i)) (hX : ∀ i, Real' (X i)) (hF : ∀ i, Real' (F i)) (c : Fin q)
    (out : EReal) (mid : Fin p → EReal) (dist : Fin 3 → EReal) (rows : Fin 3 → Fin p → EReal) (hout : out = affine mid W b c)
    (hmid : ∀ k, mid k = ∑ j : Fin 3, Ideal.div (Ideal.div 1 (dist j + eps)) (∑ i : Fin 3, Ideal.div 1 (dist i + eps)) * rows j k)
    (hdist : ∀ j, dist j = away C X r (near hn C X r j)) (hrows : ∀ j k, rows j k = F (ix2 (near hn C X r j) k)) :
    out = affine (fun k => blend (away C X r) (fun s => F (ix2 s k))) W b c := by
  rw [hout]
  refine congrArg (fun x => affine x W b c) (funext fun k => ?_)
  rw [hmid, blend_nearest _ _ _ (near_nearest hn C X r hA) (away_real C X r hC hX) (fun s => hF _)]
  simp only [hdist, hrows]

/-- The projected blend is a real number. -/
theorem blend_read_real (hA : Apart hn C X r) (hC : ∀ i, Real' (C i)) (hX : ∀ i, Real' (X i)) (hF : ∀ i, Real' (F i))
    (hW : ∀ i j, Real' (W i j)) (hb : ∀ j, Real' (b j)) (c : Fin q) :
    Real' (affine (fun k => blend (away C X r) (fun s => F (ix2 s k))) W b c) :=
  Real'.affine (fun _ => real_blend _ _ _ (near_nearest hn C X r hA) (away_real C X r hC hX) (fun _ => hF _)) hW hb c
end

end Cert.Value

end
-- ==== Proof.Set1.lean ====
/-
  The first set of points as the reference reads it: the squared distances, the three nearest, the gathered rows, and the
  weighted rows projected.
-/
module

public import proofs.«01_k».proof.Proof.Gen.ReferenceIdeal.Read
public import proofs.«01_k».proof.Proof.Interp
public import Idealize.ShloMosaic.Lib.Pointwise

@[expose] public section

set_option maxRecDepth 16384

noncomputable section

open Idealize.ShloMosaic Idealize.SL.Sem
open Cert.ReferenceIdeal Cert.ReferenceIdeal.Read

namespace Cert.Value

variable (x0 : Vec Ideal S8192x3 .f32) (x1 : Vec Ideal S8192x256 .f32) (x6 : Vec Ideal S8192x3 .f32)
  (x7 : Vec Ideal S256x512 .f32) (x8 : Vec Ideal S512 .f32)

/-- The squared distances, negated. -/
theorem set1_far (r : Fin 8192) (s : Fin 8192) : (val_main_v7 x0 x6 : Vec Ideal S8192x8192 .f32) (ix2 r s)
    = -(sq3 (fun k => x6 (ix2 r k)) (fun k => x0 (ix2 s k))) := by
  unfold val_main_v7 val_main_v6 val_main_v5 val_main_v4 val_main_v3 val_main_v2 val_main_v1 val_main_v0
  pointwise [val_main_cst, sq3, Fin.sum_univ_three]

/-- The sources that the selection names. -/
theorem set1_index (r : Fin 8192) (j : Fin 3) : (val_main_indices x0 x6 : IVec S8192x3 32) (ix2 r j) = BitVec.ofNat 32 (near (by norm_num) x0 x6 r j).val := by
  unfold val_main_indices
  exact near_index _ x0 x6 r _ (set1_far x0 x6 r) _ j

/-- The same names as a column of indices, none of them negative. -/
theorem set1_index_rows (r : Fin 8192) (j : Fin 3) : (val_main_v13 x0 x6 : IVec S8192x3x1 32) (ix3 r j 0) = BitVec.ofNat 32 (near (by norm_num) x0 x6 r j).val := by
  have e : (val_main_v13 x0 x6 : IVec S8192x3x1 32) (ix3 r j 0) = val_main_v12 x0 x6 (ix2 r j) := by
    rw [val_main_v13_apply]
    exact congrArg _ (funext fun a => match a with | ⟨0, _⟩ => rfl | ⟨1, _⟩ => rfl)
  rw [e, val_main_v12_apply, val_main_v9_apply, val_main_v8_apply, set1_index]
  exact wrap_small _ (lt_of_lt_of_le (near (by norm_num) x0 x6 r j).isLt (by norm_num)) _

/-- The gathered feature rows. -/
theorem set1_rows (r : Fin 8192) (j : Fin 3) (c : Fin 256) : (val_main_v14 x0 x1 x6 : Vec Ideal S8192x3x256 .f32) (ix3 r j c)
    = x1 (ix2 (near (by norm_num) x0 x6 r j) c) := by
  unfold val_main_v14
  exact gather_row _ x1 _ r j c _ (by norm_num) (set1_index_rows x0 x6 r j)

/-- The gathered points. -/
theorem set1_points (r : Fin 8192) (j : Fin 3) (k : Fin 3) : (val_main_v21 x0 x6 : Vec Ideal S8192x3x3 .f32) (ix3 r j k)
    = x0 (ix2 (near (by norm_num) x0 x6 r j) k) := by
  unfold val_main_v21
  exact gather_row _ x0 _ r j k _ (by norm_num) (set1_index_rows x0 x6 r j)

/-- The squared distances of the gathered points. -/
theorem set1_dist (r : Fin 8192) (j : Fin 3) : (val_main_v26 x0 x6 : Vec Ideal S8192x3 .f32) (ix2 r j)
    = sq3 (fun k => x6 (ix2 r k)) (fun k => x0 (ix2 (near (by norm_num) x0 x6 r j) k)) := by
  have h := set1_points x0 x6 r j
  simp only [← h]
  unfold val_main_v26 val_main_v25 val_main_v24 val_main_v23 val_main_v22
  generalize val_main_v21 x0 x6 = y
  pointwise [val_main_cst_3, sq3, Fin.sum_univ_three]

/-- The weighted rows, from the distances and the gathered rows. -/
theorem set1_sum (r : Fin 8192) (c : Fin 256) : (val_main_v38 x0 x1 x6 : Vec Ideal S8192x256 .f32) (ix2 r c)
    = ∑ j : Fin 3, Ideal.div (Ideal.div 1 ((val_main_v26 x0 x6 : Vec Ideal S8192x3 .f32) (ix2 r j) + eps))
        (∑ k : Fin 3, Ideal.div 1 ((val_main_v26 x0 x6 : Vec Ideal S8192x3 .f32) (ix2 r k) + eps))
        * (val_main_v14 x0 x1 x6 : Vec Ideal S8192x3x256 .f32) (ix3 r j c) := by
  unfold val_main_v38 val_main_v37 val_main_v36 val_main_v35 val_main_v34 val_main_v33 val_main_v32 val_main_v31 val_main_v30 val_main_v29 val_main_v28 val_main_v27
  generalize val_main_v26 x0 x6 = y
  generalize val_main_v14 x0 x1 x6 = z
  pointwise [val_main_cst_4, val_main_cst_5, val_main_cst_6, val_main_cst_7, eps]

/-- The projected rows. -/
theorem set1_project (r : Fin 8192) (c : Fin 512) : (val_main_v42 x0 x1 x6 x7 x8 : Vec Ideal S8192x512 .f32) (ix2 r c)
    = affine (fun k => (val_main_v38 x0 x1 x6 : Vec Ideal S8192x256 .f32) (ix2 r k)) (fun k c => x7 (ix2 k c)) (fun c => x8 (ix1 c)) c := by
  unfold val_main_v42 val_main_v41 val_main_v40 val_main_v39
  generalize val_main_v38 x0 x1 x6 = y
  pointwise [dot_S8192x256_S256x512_S8192x512_1_0_0_1_n_n, affine]

/-- The projected rows are the blends over the whole row, projected. -/
theorem set1_blend (r : Fin 8192) (hA : Apart (by norm_num) x0 x6 r) (hc : ∀ i, Real' (x0 i)) (hx : ∀ i, Real' (x6 i)) (hf : ∀ i, Real' (x1 i))
    (c : Fin 512) : (val_main_v42 x0 x1 x6 x7 x8 : Vec Ideal S8192x512 .f32) (ix2 r c)
      = affine (fun k => blend (away x0 x6 r) (fun s => x1 (ix2 s k))) (fun k c => x7 (ix2 k c)) (fun c => x8 (ix1 c)) c :=
  blend_read _ x0 x6 r x1 _ _ hA hc hx hf c _ _ _ _ (set1_project x0 x1 x6 x7 x8 r c) (set1_sum x0 x1 x6 r)
    (set1_dist x0 x6 r) (set1_rows x0 x1 x6 r)

end Cert.Value

end
-- ==== Proof.Set2.lean ====
/-
  The second set of points as the reference reads it: the squared distances, the three nearest, the gathered rows, and the
  weighted rows projected.
-/
module

public import proofs.«01_k».proof.Proof.Gen.ReferenceIdeal.Read
public import proofs.«01_k».proof.Proof.Interp
public import Idealize.ShloMosaic.Lib.Pointwise

@[expose] public section

set_option maxRecDepth 16384

noncomputable section

open Idealize.ShloMosaic Idealize.SL.Sem
open Cert.ReferenceIdeal Cert.ReferenceIdeal.Read

namespace Cert.Value

variable (x2 : Vec Ideal S2048x3 .f32) (x3 : Vec Ideal S2048x512 .f32) (x6 : Vec Ideal S8192x3 .f32)
  (x9 : Vec Ideal S512x512 .f32) (x10 : Vec Ideal S512 .f32)

/-- The squared distances, negated. -/
theorem set2_far (r : Fin 8192) (s : Fin 2048) : (val_main_v50 x2 x6 : Vec Ideal S8192x2048 .f32) (ix2 r s)
    = -(sq3 (fun k => x6 (ix2 r k)) (fun k => x2 (ix2 s k))) := by
  unfold val_main_v50 val_main_v49 val_main_v48 val_main_v47 val_main_v46 val_main_v45 val_main_v44 val_main_v43
  pointwise [val_main_cst_8, sq3, Fin.sum_univ_three]

/-- The sources that the selection names. -/
theorem set2_index (r : Fin 8192) (j : Fin 3) : (val_main_indices_10 x2 x6 : IVec S8192x3 32) (ix2 r j) = BitVec.ofNat 32 (near (by norm_num) x2 x6 r j).val := by
  unfold val_main_indices_10
  exact near_index _ x2 x6 r _ (set2_far x2 x6 r) _ j

/-- The same names as a column of indices, none of them negative. -/
theorem set2_index_rows (r : Fin 8192) (j : Fin 3) : (val_main_v56 x2 x6 : IVec S8192x3x1 32) (ix3 r j 0) = BitVec.ofNat 32 (near (by norm_num) x2 x6 r j).val := by
  have e : (val_main_v56 x2 x6 : IVec S8192x3x1 32) (ix3 r j 0) = val_main_v55 x2 x6 (ix2 r j) := by
    rw [val_main_v56_apply]
    exact congrArg _ (funext fun a => match a with | ⟨0, _⟩ => rfl | ⟨1, _⟩ => rfl)
  rw [e, val_main_v55_apply, val_main_v52_apply, val_main_v51_apply, set2_index]
  exact wrap_small _ (lt_of_lt_of_le (near (by norm_num) x2 x6 r j).isLt (by norm_num)) _

/-- The gathered feature rows. -/
theorem set2_rows (r : Fin 8192) (j : Fin 3) (c : Fin 512) : (val_main_v57 x2 x3 x6 : Vec Ideal S8192x3x512 .f32) (ix3 r j c)
    = x3 (ix2 (near (by norm_num) x2 x6 r j) c) := by
  unfold val_main_v57
  exact gather_row _ x3 _ r j c _ (by norm_num) (set2_index_rows x2 x6 r j)

/-- The gathered points. -/
theorem set2_points (r : Fin 8192) (j : Fin 3) (k : Fin 3) : (val_main_v64 x2 x6 : Vec Ideal S8192x3x3 .f32) (ix3 r j k)
    = x2 (ix2 (near (by norm_num) x2 x6 r j) k) := by
  unfold val_main_v64
  exact gather_row _ x2 _ r j k _ (by norm_num) (set2_index_rows x2 x6 r j)

/-- The squared distances of the gathered points. -/
theorem set2_dist (r : Fin 8192) (j : Fin 3) : (val_main_v69 x2 x6 : Vec Ideal S8192x3 .f32) (ix2 r j)
    = sq3 (fun k => x6 (ix2 r k)) (fun k => x2 (ix2 (near (by norm_num) x2 x6 r j) k)) := by
  have h := set2_points x2 x6 r j
  simp only [← h]
  unfold val_main_v69 val_main_v68 val_main_v67 val_main_v66 val_main_v65
  generalize val_main_v64 x2 x6 = y
  pointwise [val_main_cst_15, sq3, Fin.sum_univ_three]

/-- The weighted rows, from the distances and the gathered rows. -/
theorem set2_sum (r : Fin 8192) (c : Fin 512) : (val_main_v81 x2 x3 x6 : Vec Ideal S8192x512 .f32) (ix2 r c)
    = ∑ j : Fin 3, Ideal.div (Ideal.div 1 ((val_main_v69 x2 x6 : Vec Ideal S8192x3 .f32) (ix2 r j) + eps))
        (∑ k : Fin 3, Ideal.div 1 ((val_main_v69 x2 x6 : Vec Ideal S8192x3 .f32) (ix2 r k) + eps))
        * (val_main_v57 x2 x3 x6 : Vec Ideal S8192x3x512 .f32) (ix3 r j c) := by
  unfold val_main_v81 val_main_v80 val_main_v79 val_main_v78 val_main_v77 val_main_v76 val_main_v75 val_main_v74 val_main_v73 val_main_v72 val_main_v71 val_main_v70
  generalize val_main_v69 x2 x6 = y
  generalize val_main_v57 x2 x3 x6 = z
  pointwise [val_main_cst_16, val_main_cst_17, val_main_cst_18, val_main_cst_19, eps]

/-- The projected rows. -/
theorem set2_project (r : Fin 8192) (c : Fin 512) : (val_main_v85 x2 x3 x6 x9 x10 : Vec Ideal S8192x512 .f32) (ix2 r c)
    = affine (fun k => (val_main_v81 x2 x3 x6 : Vec Ideal S8192x512 .f32) (ix2 r k)) (fun k c => x9 (ix2 k c)) (fun c => x10 (ix1 c)) c := by
  unfold val_main_v85 val_main_v84 val_main_v83 val_main_v82
  generalize val_main_v81 x2 x3 x6 = y
  pointwise [dot_S8192x512_S512x512_S8192x512_1_0_0_1_n_n, affine]

/-- The projected rows are the blends over the whole row, projected. -/
theorem set2_blend (r : Fin 8192) (hA : Apart (by norm_num) x2 x6 r) (hc : ∀ i, Real' (x2 i)) (hx : ∀ i, Real' (x6 i)) (hf : ∀ i, Real' (x3 i))
    (c : Fin 512) : (val_main_v85 x2 x3 x6 x9 x10 : Vec Ideal S8192x512 .f32) (ix2 r c)
      = affine (fun k => blend (away x2 x6 r) (fun s => x3 (ix2 s k))) (fun k c => x9 (ix2 k c)) (fun c => x10 (ix1 c)) c :=
  blend_read _ x2 x6 r x3 _ _ hA hc hx hf c _ _ _ _ (set2_project x2 x3 x6 x9 x10 r c) (set2_sum x2 x3 x6 r)
    (set2_dist x2 x6 r) (set2_rows x2 x3 x6 r)

end Cert.Value

end
-- ==== Proof.Set3.lean ====
/-
  The third set of points as the reference reads it: the squared distances, the three nearest, the gathered rows, and the
  weighted rows projected.
-/
module

public import proofs.«01_k».proof.Proof.Gen.ReferenceIdeal.Read
public import proofs.«01_k».proof.Proof.Interp
public import Idealize.ShloMosaic.Lib.Pointwise

@[expose] public section

set_option maxRecDepth 16384

noncomputable section

open Idealize.ShloMosaic Idealize.SL.Sem
open Cert.ReferenceIdeal Cert.ReferenceIdeal.Read

namespace Cert.Value

variable (x4 : Vec Ideal S512x3 .f32) (x5 : Vec Ideal S512x1024 .f32) (x6 : Vec Ideal S8192x3 .f32)
  (x11 : Vec Ideal S1024x512 .f32) (x12 : Vec Ideal S512 .f32)

/-- The squared distances, negated. -/
theorem set3_far (r : Fin 8192) (s : Fin 512) : (val_main_v93 x4 x6 : Vec Ideal S8192x512 .f32) (ix2 r s)
    = -(sq3 (fun k => x6 (ix2 r k)) (fun k => x4 (ix2 s k))) := by
  unfold val_main_v93 val_main_v92 val_main_v91 val_main_v90 val_main_v89 val_main_v88 val_main_v87 val_main_v86
  pointwise [val_main_cst_20, sq3, Fin.sum_univ_three]

/-- The sources that the selection names. -/
theorem set3_index (r : Fin 8192) (j : Fin 3) : (val_main_indices_22 x4 x6 : IVec S8192x3 32) (ix2 r j) = BitVec.ofNat 32 (near (by norm_num) x4 x6 r j).val := by
  unfold val_main_indices_22
  exact near_index _ x4 x6 r _ (set3_far x4 x6 r) _ j

/-- The same names as a column of indices, none of them negative. -/
theorem set3_index_rows (r : Fin 8192) (j : Fin 3) : (val_main_v99 x4 x6 : IVec S8192x3x1 32) (ix3 r j 0) = BitVec.ofNat 32 (near (by norm_num) x4 x6 r j).val := by
  have e : (val_main_v99 x4 x6 : IVec S8192x3x1 32) (ix3 r j 0) = val_main_v98 x4 x6 (ix2 r j) := by
    rw [val_main_v99_apply]
    exact congrArg _ (funext fun a => match a with | ⟨0, _⟩ => rfl | ⟨1, _⟩ => rfl)
  rw [e, val_main_v98_apply, val_main_v95_apply, val_main_v94_apply, set3_index]
  exact wrap_small _ (lt_of_lt_of_le (near (by norm_num) x4 x6 r j).isLt (by norm_num)) _

/-- The gathered feature rows. -/
theorem set3_rows (r : Fin 8192) (j : Fin 3) (c : Fin 1024) : (val_main_v100 x4 x5 x6 : Vec Ideal S8192x3x1024 .f32) (ix3 r j c)
    = x5 (ix2 (near (by norm_num) x4 x6 r j) c) := by
  unfold val_main_v100
  exact gather_row _ x5 _ r j c _ (by norm_num) (set3_index_rows x4 x6 r j)

/-- The gathered points. -/
theorem set3_points (r : Fin 8192) (j : Fin 3) (k : Fin 3) : (val_main_v107 x4 x6 : Vec Ideal S8192x3x3 .f32) (ix3 r j k)
    = x4 (ix2 (near (by norm_num) x4 x6 r j) k) := by
  unfold val_main_v107
  exact gather_row _ x4 _ r j k _ (by norm_num) (set3_index_rows x4 x6 r j)

/-- The squared distances of the gathered points. -/
theorem set3_dist (r : Fin 8192) (j : Fin 3) : (val_main_v112 x4 x6 : Vec Ideal S8192x3 .f32) (ix2 r j)
    = sq3 (fun k => x6 (ix2 r k)) (fun k => x4 (ix2 (near (by norm_num) x4 x6 r j) k)) := by
  have h := set3_points x4 x6 r j
  simp only [← h]
  unfold val_main_v112 val_main_v111 val_main_v110 val_main_v109 val_main_v108
  generalize val_main_v107 x4 x6 = y
  pointwise [val_main_cst_27, sq3, Fin.sum_univ_three]

/-- The weighted rows, from the distances and the gathered rows. -/
theorem set3_sum (r : Fin 8192) (c : Fin 1024) : (val_main_v124 x4 x5 x6 : Vec Ideal S8192x1024 .f32) (ix2 r c)
    = ∑ j : Fin 3, Ideal.div (Ideal.div 1 ((val_main_v112 x4 x6 : Vec Ideal S8192x3 .f32) (ix2 r j) + eps))
        (∑ k : Fin 3, Ideal.div 1 ((val_main_v112 x4 x6 : Vec Ideal S8192x3 .f32) (ix2 r k) + eps))
        * (val_main_v100 x4 x5 x6 : Vec Ideal S8192x3x1024 .f32) (ix3 r j c) := by
  unfold val_main_v124 val_main_v123 val_main_v122 val_main_v121 val_main_v120 val_main_v119 val_main_v118 val_main_v117 val_main_v116 val_main_v115 val_main_v114 val_main_v113
  generalize val_main_v112 x4 x6 = y
  generalize val_main_v100 x4 x5 x6 = z
  pointwise [val_main_cst_28, val_main_cst_29, val_main_cst_30, val_main_cst_31, eps]

/-- The projected rows. -/
theorem set3_project (r : Fin 8192) (c : Fin 512) : (val_main_v128 x4 x5 x6 x11 x12 : Vec Ideal S8192x512 .f32) (ix2 r c)
    = affine (fun k => (val_main_v124 x4 x5 x6 : Vec Ideal S8192x1024 .f32) (ix2 r k)) (fun k c => x11 (ix2 k c)) (fun c => x12 (ix1 c)) c := by
  unfold val_main_v128 val_main_v127 val_main_v126 val_main_v125
  generalize val_main_v124 x4 x5 x6 = y
  pointwise [dot_S8192x1024_S1024x512_S8192x512_1_0_0_1_n_n, affine]

/-- The projected rows are the blends over the whole row, projected. -/
theorem set3_blend (r : Fin 8192) (hA : Apart (by norm_num) x4 x6 r) (hc : ∀ i, Real' (x4 i)) (hx : ∀ i, Real' (x6 i)) (hf : ∀ i, Real' (x5 i))
    (c : Fin 512) : (val_main_v128 x4 x5 x6 x11 x12 : Vec Ideal S8192x512 .f32) (ix2 r c)
      = affine (fun k => blend (away x4 x6 r) (fun s => x5 (ix2 s k))) (fun k c => x11 (ix2 k c)) (fun c => x12 (ix1 c)) c :=
  blend_read _ x4 x6 r x5 _ _ hA hc hx hf c _ _ _ _ (set3_project x4 x5 x6 x11 x12 r c) (set3_sum x4 x5 x6 r)
    (set3_dist x4 x6 r) (set3_rows x4 x5 x6 r)

end Cert.Value

end
-- ==== Proof.Given.lean ====
/-
  What the precondition says: every argument entry is a real number, and the first four negated distances of a row, greatest
  first, are strictly decreasing for each of the three sets.
-/
module

public import proofs.«01_k».proof.Pre_distinct_nearest
public import proofs.«01_k».proof.Proof.Set1
public import proofs.«01_k».proof.Proof.Set2
public import proofs.«01_k».proof.Proof.Set3
public import Idealize.ShloMosaic.Lib.ReduceAll

@[expose] public section

set_option maxRecDepth 16384

noncomputable section

open Idealize.ShloMosaic Idealize.SL.Sem
open Cert.Pre_distinct_nearest

namespace Cert.Value

theorem and_split (a b : IVec S_ 1) (i : S_.Idx) (h : andi a b i = 1#1) : a i = 1#1 ∧ b i = 1#1 := by
  have e : ∀ x y : BitVec 1, x &&& y = 1#1 → x = 1#1 ∧ y = 1#1 := by decide
  exact e _ _ h

theorem one_index : Subsingleton S_.Idx := ⟨fun a b => funext fun i => i.elim0⟩

theorem real_of_lt_top (x : EReal) (h : BitVec.ofBool (decide (max x (-x) < ⊤)) = 1#1) : Real' x := by
  have h' : max x (-x) < ⊤ := by
    by_contra hc
    rw [decide_eq_false hc] at h
    exact absurd h (by decide)
  rw [max_lt_iff] at h'
  refine ⟨x.toReal, (EReal.coe_toReal h'.1.ne ?_).symm⟩
  rintro rfl
  exact absurd h'.2 (by simp)

theorem word_top : Ideal.ofBits .f32 0x7F800000#32 = (⊤ : EReal) := by
  simp [Ideal.ofBits, Ideal.ieee]

/-- Every entry of an array whose magnitudes are all below the infinity is a real. -/
theorem real_of_all {s : Shape} {axes : List (Fin s.rank)} (x b : FVec Ideal s .f32) (hb : ∀ i, b i = Ideal.ofBits .f32 0x7F800000#32)
    (one : IVec S_ 1) (h : s.ReducesTo axes S_) (hu : 0 < S_.numel) (j : S_.Idx)
    (e : Host.reduce IntOp.andi (cmpf .olt (Host.absf x) b) one h hu j = 1#1) (i : s.Idx) : Real' (x i) := by
  haveI := one_index
  have h1 := Host.reduce_andi_all _ _ h hu j e i
  have h2 : BitVec.ofBool (decide (max (x i) (-(x i)) < b i)) = 1#1 := h1
  rw [hb, word_top] at h2
  exact real_of_lt_top _ h2

/-- Strictly decreasing values of a row's first four. -/
theorem strict_of_all {n : ℕ} (hn : 4 ≤ n) (x : Vec Ideal ⟨2, ![8192, n]⟩ .f32) (hx : (⟨2, ![8192, n]⟩ : Shape).Slices (fun _ => 0) ⟨2, ![8192, 4]⟩)
    (s1 : S8192x4.Slices ![0, 1] S8192x3) (s0 : S8192x4.Slices ![0, 0] S8192x3)
    (one : IVec S_ 1) {axes : List (Fin S8192x3.rank)} (h : S8192x3.ReducesTo axes S_) (hu : 0 < S_.numel) (i : S_.Idx)
    (e : Host.reduce IntOp.andi (cmpf .olt
      (extractStridedSlice S8192x3 ![0, 1] (Host.topK ⟨2, ![8192, 4]⟩ 1 (FloatOps.cmpfTotal (F := Ideal) (φ := .f32) .gt) x hx).1 s1)
      (extractStridedSlice S8192x3 ![0, 0] (Host.topK ⟨2, ![8192, 4]⟩ 1 (FloatOps.cmpfTotal (F := Ideal) (φ := .f32) .gt) x hx).1 s0) : IVec S8192x3 1) one h hu i = 1#1)
    (r : Fin 8192) (j : Fin 3) :
    x (ix2 r (order (fun s => x (ix2 r s)) ⟨j.val + 1, by omega⟩)) < x (ix2 r (order (fun s => x (ix2 r s)) ⟨j.val, by omega⟩)) := by
  haveI := one_index
  have h1 := Host.reduce_andi_all _ _ h hu i e (ix2 r j)
  have e1 := topK_values x hx r ⟨j.val + 1, by omega⟩ (by dsimp only; omega)
  have e0 := topK_values x hx r ⟨j.val, by omega⟩ (by dsimp only; omega)
  revert h1 e1 e0
  generalize (Host.topK ⟨2, ![8192, 4]⟩ 1 (FloatOps.cmpfTotal (F := Ideal) (φ := .f32) .gt) x hx).1 = v
  intro h1 e1 e0
  have a1 : extractStridedSlice S8192x3 ![0, 1] v s1 (ix2 r j) = v (ix2 r ⟨j.val + 1, by omega⟩) := by
    refine congrArg v (funext fun a => Fin.ext ?_)
    match a with
    | ⟨0, _⟩ => exact Nat.zero_add _
    | ⟨1, _⟩ => exact Nat.add_comm 1 _
  have a0 : extractStridedSlice S8192x3 ![0, 0] v s0 (ix2 r j) = v (ix2 r ⟨j.val, by omega⟩) := by
    refine congrArg v (funext fun a => Fin.ext ?_)
    match a with
    | ⟨0, _⟩ => exact Nat.zero_add _
    | ⟨1, _⟩ => exact Nat.zero_add _
  have h2 : BitVec.ofBool (decide (extractStridedSlice S8192x3 ![0, 1] v s1 (ix2 r j) < extractStridedSlice S8192x3 ![0, 0] v s0 (ix2 r j))) = 1#1 := h1
  rw [a1, a0, e1, e0] at h2
  by_contra hc
  rw [decide_eq_false hc] at h2
  exact absurd h2 (by decide)

/-- The same of an array that holds the negated distances. -/
theorem apart_of {n : ℕ} (hn : 4 ≤ n) (C : Vec Ideal ⟨2, ![n, 3]⟩ .f32) (X : Vec Ideal ⟨2, ![8192, 3]⟩ .f32) (r : Fin 8192)
    (v : Vec Ideal ⟨2, ![8192, n]⟩ .f32) (hv : ∀ s, v (ix2 r s) = -(away C X r s))
    (h : ∀ j : Fin 3, v (ix2 r (order (fun s => v (ix2 r s)) ⟨j.val + 1, by omega⟩)) < v (ix2 r (order (fun s => v (ix2 r s)) ⟨j.val, by omega⟩))) :
    Apart hn C X r := fun j => by
  have t := h j
  simp only [hv] at t
  exact t

/-- What the precondition gives. -/
structure Given (x0 : Vec Ideal S8192x3 .f32) (x1 : Vec Ideal S8192x256 .f32) (x2 : Vec Ideal S2048x3 .f32) (x3 : Vec Ideal S2048x512 .f32) (x4 : Vec Ideal S512x3 .f32) (x5 : Vec Ideal S512x1024 .f32) (x6 : Vec Ideal S8192x3 .f32) (x7 : Vec Ideal S256x512 .f32) (x8 : Vec Ideal S512 .f32) (x9 : Vec Ideal S512x512 .f32) (x10 : Vec Ideal S512 .f32) (x11 : Vec Ideal S1024x512 .f32) (x12 : Vec Ideal S512 .f32) (x13 : Vec Ideal S1536x512 .f32) (x14 : Vec Ideal S512 .f32) (x15 : Vec Ideal S512x512 .f32) (x16 : Vec Ideal S512 .f32) (x17 : Vec Ideal S512x512 .f32) (x18 : Vec Ideal S512 .f32) (x19 : Vec Ideal S512x512 .f32) (x20 : Vec Ideal S512 .f32) : Prop where
  real0 : ∀ i, Real' (x0 i)
  real1 : ∀ i, Real' (x1 i)
  real2 : ∀ i, Real' (x2 i)
  real3 : ∀ i, Real' (x3 i)
  real4 : ∀ i, Real' (x4 i)
  real5 : ∀ i, Real' (x5 i)
  real6 : ∀ i, Real' (x6 i)
  real7 : ∀ i, Real' (x7 i)
  real8 : ∀ i, Real' (x8 i)
  real9 : ∀ i, Real' (x9 i)
  real10 : ∀ i, Real' (x10 i)
  real11 : ∀ i, Real' (x11 i)
  real12 : ∀ i, Real' (x12 i)
  real13 : ∀ i, Real' (x13 i)
  real14 : ∀ i, Real' (x14 i)
  real15 : ∀ i, Real' (x15 i)
  real16 : ∀ i, Real' (x16 i)
  real17 : ∀ i, Real' (x17 i)
  real18 : ∀ i, Real' (x18 i)
  real19 : ∀ i, Real' (x19 i)
  real20 : ∀ i, Real' (x20 i)
  strict1 : ∀ r : Fin 8192, Apart (by norm_num) x0 x6 r
  strict2 : ∀ r : Fin 8192, Apart (by norm_num) x2 x6 r
  strict3 : ∀ r : Fin 8192, Apart (by norm_num) x4 x6 r

variable (x0 : Vec Ideal S8192x3 .f32)
  (x1 : Vec Ideal S8192x256 .f32)
  (x2 : Vec Ideal S2048x3 .f32)
  (x3 : Vec Ideal S2048x512 .f32)
  (x4 : Vec Ideal S512x3 .f32)
  (x5 : Vec Ideal S512x1024 .f32)
  (x6 : Vec Ideal S8192x3 .f32)
  (x7 : Vec Ideal S256x512 .f32)
  (x8 : Vec Ideal S512 .f32)
  (x9 : Vec Ideal S512x512 .f32)
  (x10 : Vec Ideal S512 .f32)
  (x11 : Vec Ideal S1024x512 .f32)
  (x12 : Vec Ideal S512 .f32)
  (x13 : Vec Ideal S1536x512 .f32)
  (x14 : Vec Ideal S512 .f32)
  (x15 : Vec Ideal S512x512 .f32)
  (x16 : Vec Ideal S512 .f32)
  (x17 : Vec Ideal S512x512 .f32)
  (x18 : Vec Ideal S512 .f32)
  (x19 : Vec Ideal S512x512 .f32)
  (x20 : Vec Ideal S512 .f32)

theorem given_of_pre [Cert.Pre_distinct_nearest.Facts] (h : Cert.Pre_distinct_nearest.fn (F := Ideal) x0 x1 x2 x3 x4 x5 x6 x7 x8 x9 x10 x11 x12 x13 x14 x15 x16 x17 x18 x19 x20 = fun _ => 1#1) : Given x0 x1 x2 x3 x4 x5 x6 x7 x8 x9 x10 x11 x12 x13 x14 x15 x16 x17 x18 x19 x20 := by
  have h0 := congrFun h ix0
  dsimp only [fn, fn_part1, fn_part2, fn_part3, fn_part4, fn_part5, fn_part6, fn_part7, fn_part8] at h0
  obtain ⟨h0, t3⟩ := and_split _ _ _ h0
  obtain ⟨h0, t2⟩ := and_split _ _ _ h0
  obtain ⟨h0, t1⟩ := and_split _ _ _ h0
  obtain ⟨h0, g20⟩ := and_split _ _ _ h0
  obtain ⟨h0, g19⟩ := and_split _ _ _ h0
  obtain ⟨h0, g18⟩ := and_split _ _ _ h0
  obtain ⟨h0, g17⟩ := and_split _ _ _ h0
  obtain ⟨h0, g16⟩ := and_split _ _ _ h0
  obtain ⟨h0, g15⟩ := and_split _ _ _ h0
  obtain ⟨h0, g14⟩ := and_split _ _ _ h0
  obtain ⟨h0, g13⟩ := and_split _ _ _ h0
  obtain ⟨h0, g12⟩ := and_split _ _ _ h0
  obtain ⟨h0, g11⟩ := and_split _ _ _ h0
  obtain ⟨h0, g10⟩ := and_split _ _ _ h0
  obtain ⟨h0, g9⟩ := and_split _ _ _ h0
  obtain ⟨h0, g8⟩ := and_split _ _ _ h0
  obtain ⟨h0, g7⟩ := and_split _ _ _ h0
  obtain ⟨h0, g6⟩ := and_split _ _ _ h0
  obtain ⟨h0, g5⟩ := and_split _ _ _ h0
  obtain ⟨h0, g4⟩ := and_split _ _ _ h0
  obtain ⟨h0, g3⟩ := and_split _ _ _ h0
  obtain ⟨h0, g2⟩ := and_split _ _ _ h0
  obtain ⟨h0, g1⟩ := and_split _ _ _ h0
  obtain ⟨h0, g0⟩ := and_split _ _ _ h0
  have s1 := strict_of_all (by norm_num) _ _ _ _ _ _ _ _ t1
  have s2 := strict_of_all (by norm_num) _ _ _ _ _ _ _ _ t2
  have s3 := strict_of_all (by norm_num) _ _ _ _ _ _ _ _ t3
  refine ⟨real_of_all x0 _ (fun _ => rfl) _ _ _ _ g0,
    real_of_all x1 _ (fun _ => rfl) _ _ _ _ g1,
    real_of_all x2 _ (fun _ => rfl) _ _ _ _ g2,
    real_of_all x3 _ (fun _ => rfl) _ _ _ _ g3,
    real_of_all x4 _ (fun _ => rfl) _ _ _ _ g4,
    real_of_all x5 _ (fun _ => rfl) _ _ _ _ g5,
    real_of_all x6 _ (fun _ => rfl) _ _ _ _ g6,
    real_of_all x7 _ (fun _ => rfl) _ _ _ _ g7,
    real_of_all x8 _ (fun _ => rfl) _ _ _ _ g8,
    real_of_all x9 _ (fun _ => rfl) _ _ _ _ g9,
    real_of_all x10 _ (fun _ => rfl) _ _ _ _ g10,
    real_of_all x11 _ (fun _ => rfl) _ _ _ _ g11,
    real_of_all x12 _ (fun _ => rfl) _ _ _ _ g12,
    real_of_all x13 _ (fun _ => rfl) _ _ _ _ g13,
    real_of_all x14 _ (fun _ => rfl) _ _ _ _ g14,
    real_of_all x15 _ (fun _ => rfl) _ _ _ _ g15,
    real_of_all x16 _ (fun _ => rfl) _ _ _ _ g16,
    real_of_all x17 _ (fun _ => rfl) _ _ _ _ g17,
    real_of_all x18 _ (fun _ => rfl) _ _ _ _ g18,
    real_of_all x19 _ (fun _ => rfl) _ _ _ _ g19,
    real_of_all x20 _ (fun _ => rfl) _ _ _ _ g20, fun r => apart_of _ x0 x6 r _ (set1_far x0 x6 r) (s1 r),
    fun r => apart_of _ x2 x6 r _ (set2_far x2 x6 r) (s2 r), fun r => apart_of _ x4 x6 r _ (set3_far x4 x6 r) (s3 r)⟩

end Cert.Value

end
-- ==== Proof.RefFront.lean ====
/-
  The reference's fused features from its three projected rows: the concatenation against the 1536-row matrix is the sum of
  three products, and the complementary error function at a negated argument is one plus the error function.
-/
module

public import proofs.«01_k».proof.Proof.Gen.ReferenceIdeal.Read
public import proofs.«01_k».proof.Proof.Bridge
public import Idealize.ShloMosaic.Lib.Pointwise

@[expose] public section

set_option maxRecDepth 16384

noncomputable section

open Idealize.ShloMosaic Idealize.SL.Sem
open Cert.ReferenceIdeal Cert.ReferenceIdeal.Read

namespace Cert.Value

/-- A sum over 1536 as three sums over 512. -/
theorem sum_thirds (f : Fin 1536 → EReal) : ∑ k, f k
    = (∑ i : Fin 512, f ⟨i.val, by omega⟩) + (∑ i : Fin 512, f ⟨512 + i.val, by omega⟩) + (∑ i : Fin 512, f ⟨1024 + i.val, by omega⟩) := by
  have h := Fin.sum_univ_add (a := 1024) (b := 512) (f : Fin (1024 + 512) → EReal)
  have h' := Fin.sum_univ_add (a := 512) (b := 512) (fun i : Fin (512 + 512) => f ⟨i.val, by omega⟩)
  refine h.trans ?_
  refine congrArg₂ (· + ·) ?_ rfl
  exact h'

variable (x0 : Vec Ideal S8192x3 .f32)
  (x1 : Vec Ideal S8192x256 .f32)
  (x2 : Vec Ideal S2048x3 .f32)
  (x3 : Vec Ideal S2048x512 .f32)
  (x4 : Vec Ideal S512x3 .f32)
  (x5 : Vec Ideal S512x1024 .f32)
  (x6 : Vec Ideal S8192x3 .f32)
  (x7 : Vec Ideal S256x512 .f32)
  (x8 : Vec Ideal S512 .f32)
  (x9 : Vec Ideal S512x512 .f32)
  (x10 : Vec Ideal S512 .f32)
  (x11 : Vec Ideal S1024x512 .f32)
  (x12 : Vec Ideal S512 .f32)
  (x13 : Vec Ideal S1536x512 .f32)
  (x14 : Vec Ideal S512 .f32)
  (x15 : Vec Ideal S512x512 .f32)
  (x16 : Vec Ideal S512 .f32)

theorem beside_a (r : Fin 8192) (i : Fin 512) : (val_main_v129 x0 x1 x2 x3 x4 x5 x6 x7 x8 x9 x10 x11 x12 : Vec Ideal S8192x1536 .f32) (ix2 r ⟨i.val, by omega⟩)
    = (val_main_v42 x0 x1 x6 x7 x8 : Vec Ideal S8192x512 .f32) (ix2 r i) := by
  unfold val_main_v129
  generalize val_main_v42 x0 x1 x6 x7 x8 = y0
  generalize val_main_v85 x2 x3 x6 x9 x10 = y1
  generalize val_main_v128 x4 x5 x6 x11 x12 = y2
  pointwise []

theorem beside_b (r : Fin 8192) (i : Fin 512) : (val_main_v129 x0 x1 x2 x3 x4 x5 x6 x7 x8 x9 x10 x11 x12 : Vec Ideal S8192x1536 .f32) (ix2 r ⟨512 + i.val, by omega⟩)
    = (val_main_v85 x2 x3 x6 x9 x10 : Vec Ideal S8192x512 .f32) (ix2 r i) := by
  unfold val_main_v129
  generalize val_main_v42 x0 x1 x6 x7 x8 = y0
  generalize val_main_v85 x2 x3 x6 x9 x10 = y1
  generalize val_main_v128 x4 x5 x6 x11 x12 = y2
  pointwise []

theorem beside_c (r : Fin 8192) (i : Fin 512) : (val_main_v129 x0 x1 x2 x3 x4 x5 x6 x7 x8 x9 x10 x11 x12 : Vec Ideal S8192x1536 .f32) (ix2 r ⟨1024 + i.val, by omega⟩)
    = (val_main_v128 x4 x5 x6 x11 x12 : Vec Ideal S8192x512 .f32) (ix2 r i) := by
  unfold val_main_v129
  generalize val_main_v42 x0 x1 x6 x7 x8 = y0
  generalize val_main_v85 x2 x3 x6 x9 x10 = y1
  generalize val_main_v128 x4 x5 x6 x11 x12 = y2
  pointwise []
  rw [dif_neg (by omega), dif_neg (by omega)]
  rw [show ∀ h, (⟨1024 + i.val - 512 - 512, h⟩ : Fin 512) = i from fun h => Fin.ext (by dsimp only; omega)]

/-- The product with the 1536-row matrix, plus its bias. -/
theorem ref_hidden (r : Fin 8192) (j : Fin 512) : (val_main_v133 x0 x1 x2 x3 x4 x5 x6 x7 x8 x9 x10 x11 x12 x13 x14 : Vec Ideal S8192x512 .f32) (ix2 r j)
    = hidden (fun i => (val_main_v42 x0 x1 x6 x7 x8 : Vec Ideal S8192x512 .f32) (ix2 r i)) (fun i => (val_main_v85 x2 x3 x6 x9 x10 : Vec Ideal S8192x512 .f32) (ix2 r i))
        (fun i => (val_main_v128 x4 x5 x6 x11 x12 : Vec Ideal S8192x512 .f32) (ix2 r i)) (fun k c => x13 (ix2 k c)) (fun c => x14 (ix1 c)) j := by
  have e : (val_main_v133 x0 x1 x2 x3 x4 x5 x6 x7 x8 x9 x10 x11 x12 x13 x14 : Vec Ideal S8192x512 .f32) (ix2 r j)
      = (∑ k : Fin 1536, (val_main_v129 x0 x1 x2 x3 x4 x5 x6 x7 x8 x9 x10 x11 x12 : Vec Ideal S8192x1536 .f32) (ix2 r k) * x13 (ix2 k j)) + x14 (ix1 j) := by
    unfold val_main_v133 val_main_v132 val_main_v131 val_main_v130
    generalize val_main_v129 x0 x1 x2 x3 x4 x5 x6 x7 x8 x9 x10 x11 x12 = y
    pointwise [dot_S8192x1536_S1536x512_S8192x512_1_0_0_1_n_n]
  rw [e, sum_thirds]
  simp only [beside_a, beside_b, beside_c, hidden]

/-- The reference's activation. -/
theorem ref_gelu (r : Fin 8192) (j : Fin 512) : (val_main_v140 x0 x1 x2 x3 x4 x5 x6 x7 x8 x9 x10 x11 x12 x13 x14 : Vec Ideal S8192x512 .f32) (ix2 r j)
    = gelu ((val_main_v133 x0 x1 x2 x3 x4 x5 x6 x7 x8 x9 x10 x11 x12 x13 x14 : Vec Ideal S8192x512 .f32) (ix2 r j)) := by
  have e : (val_main_v140 x0 x1 x2 x3 x4 x5 x6 x7 x8 x9 x10 x11 x12 x13 x14 : Vec Ideal S8192x512 .f32) (ix2 r j)
      = Ideal.ofBits .f32 0x3F000000#32 * (val_main_v133 x0 x1 x2 x3 x4 x5 x6 x7 x8 x9 x10 x11 x12 x13 x14 : Vec Ideal S8192x512 .f32) (ix2 r j)
        * Ideal.erfc (-((val_main_v133 x0 x1 x2 x3 x4 x5 x6 x7 x8 x9 x10 x11 x12 x13 x14 : Vec Ideal S8192x512 .f32) (ix2 r j)) * Ideal.ofBits .f32 0x3F3504F3#32) := by
    unfold val_main_v140 val_main_v139 val_main_v138 val_main_v137 val_main_v136 val_main_v135 val_main_v134
    generalize val_main_v133 x0 x1 x2 x3 x4 x5 x6 x7 x8 x9 x10 x11 x12 x13 x14 = y
    pointwise [val_main_cst_32, val_main_cst_33]
  rw [e, EReal.neg_mul, Ideal.erfc_neg, gelu]

/-- The reference's fused features. -/
theorem ref_fused (r : Fin 8192) (j : Fin 512) : (val_main_v144 x0 x1 x2 x3 x4 x5 x6 x7 x8 x9 x10 x11 x12 x13 x14 x15 x16 : Vec Ideal S8192x512 .f32) (ix2 r j)
    = fuse (fun i => (val_main_v42 x0 x1 x6 x7 x8 : Vec Ideal S8192x512 .f32) (ix2 r i)) (fun i => (val_main_v85 x2 x3 x6 x9 x10 : Vec Ideal S8192x512 .f32) (ix2 r i))
        (fun i => (val_main_v128 x4 x5 x6 x11 x12 : Vec Ideal S8192x512 .f32) (ix2 r i)) (fun k c => x13 (ix2 k c)) (fun c => x14 (ix1 c))
        (fun k c => x15 (ix2 k c)) (fun c => x16 (ix1 c)) j := by
  have e : (val_main_v144 x0 x1 x2 x3 x4 x5 x6 x7 x8 x9 x10 x11 x12 x13 x14 x15 x16 : Vec Ideal S8192x512 .f32) (ix2 r j)
      = affine (fun i => (val_main_v140 x0 x1 x2 x3 x4 x5 x6 x7 x8 x9 x10 x11 x12 x13 x14 : Vec Ideal S8192x512 .f32) (ix2 r i)) (fun k c => x15 (ix2 k c)) (fun c => x16 (ix1 c)) j := by
    unfold val_main_v144 val_main_v143 val_main_v142 val_main_v141
    generalize val_main_v140 x0 x1 x2 x3 x4 x5 x6 x7 x8 x9 x10 x11 x12 x13 x14 = y
    pointwise [dot_S8192x512_S512x512_S8192x512_1_0_0_1_n_n, affine]
  rw [e, fuse]
  simp only [ref_gelu, ref_hidden]

end Cert.Value

end
-- ==== Proof.RefTail.lean ====
/-
  What the reference computes after its fused features: the cosine sums, the mixing of their rows, the cosine sums
  again, and the gate.
-/
module

public import proofs.«01_k».proof.Proof.Gen.ReferenceIdeal.Read
public import proofs.«01_k».proof.Proof.Angles
public import Idealize.ShloMosaic.Lib.Pointwise

@[expose] public section

set_option maxRecDepth 16384

noncomputable section

open Idealize.ShloMosaic Idealize.SL.Sem
open Cert.ReferenceIdeal Cert.ReferenceIdeal.Read

namespace Cert.Value

/-- A cosine of the table: the remainder of the product over 8192, times a full turn over 8192. -/
theorem cos_rem (t s : Fin 8192) :
    Ideal.cos ((FloatOps.sitofp .f32 (IntOp.remsi .host (IntOp.muli (BitVec.ofNat 32 t.val) (BitVec.ofNat 32 s.val)) 8192#32) : Ideal .f32)
      * Ideal.div (Ideal.ofBits .f32 0x40000000#32 * Ideal.acos (Ideal.ofBits .f32 0xBF800000#32)) (Ideal.ofBits .f32 0x46000000#32))
      = ((Real.cos (((t.val * s.val : ℕ) : ℝ) * (2 * Real.pi / 8192)) : ℝ) : EReal) := by
  have hts : t.val * s.val < 2 ^ 31 := lt_of_le_of_lt (Nat.mul_le_mul t.isLt.le s.isLt.le) (by norm_num)
  rw [angle_eq _ (t.val * s.val % 8192) ?_ 0x46000000#32 8192 word_8192 (by norm_num), ← Cert.Fourier.cos_mod]
  · rfl
  · rw [muli_small, remsi_small _ 8192 hts (by norm_num) (by norm_num), toInt_small _ (lt_of_le_of_lt (Nat.mod_le _ _) hts)]

/-- The first table of cosines. -/
theorem table_first (t s : Fin 8192) : (val_main_v159 (F := Ideal) : Vec Ideal S8192x8192 .f32) (ix2 t s)
    = ((Real.cos (((t.val * s.val : ℕ) : ℝ) * (2 * Real.pi / 8192)) : ℝ) : EReal) := by
  rw [← cos_rem]
  unfold val_main_v159 val_main_v158 val_main_v157 val_main_v156 val_main_v155 val_main_v154 val_main_v153 val_main_v152 val_main_v151
    val_main_v150 val_main_v149 val_main_v148 val_main_v147 val_main_v146 val_main_v145
  pointwise [val_main_cst_34, val_main_cst_35, val_main_c_36, val_main_cst_37]

/-- The second table of cosines. -/
theorem table_second (t s : Fin 8192) : (val_main_v206 (F := Ideal) : Vec Ideal S8192x8192 .f32) (ix2 t s)
    = ((Real.cos (((t.val * s.val : ℕ) : ℝ) * (2 * Real.pi / 8192)) : ℝ) : EReal) := by
  rw [← cos_rem]
  unfold val_main_v206 val_main_v205 val_main_v204 val_main_v203 val_main_v202 val_main_v201 val_main_v200 val_main_v199 val_main_v198
    val_main_v197 val_main_v196 val_main_v195 val_main_v194 val_main_v193 val_main_v192
  pointwise [val_main_cst_38, val_main_cst_39, val_main_c_40, val_main_cst_41]

variable (x0 : Vec Ideal S8192x3 .f32)
  (x1 : Vec Ideal S8192x256 .f32)
  (x2 : Vec Ideal S2048x3 .f32)
  (x3 : Vec Ideal S2048x512 .f32)
  (x4 : Vec Ideal S512x3 .f32)
  (x5 : Vec Ideal S512x1024 .f32)
  (x6 : Vec Ideal S8192x3 .f32)
  (x7 : Vec Ideal S256x512 .f32)
  (x8 : Vec Ideal S512 .f32)
  (x9 : Vec Ideal S512x512 .f32)
  (x10 : Vec Ideal S512 .f32)
  (x11 : Vec Ideal S1024x512 .f32)
  (x12 : Vec Ideal S512 .f32)
  (x13 : Vec Ideal S1536x512 .f32)
  (x14 : Vec Ideal S512 .f32)
  (x15 : Vec Ideal S512x512 .f32)
  (x16 : Vec Ideal S512 .f32)
  (x17 : Vec Ideal S512x512 .f32)
  (x18 : Vec Ideal S512 .f32)
  (x19 : Vec Ideal S512x512 .f32)
  (x20 : Vec Ideal S512 .f32)

/-- The first cosine sums. -/
theorem ref_spectrum (t : Fin 8192) (j : Fin 512) : (val_main_v160 x0 x1 x2 x3 x4 x5 x6 x7 x8 x9 x10 x11 x12 x13 x14 x15 x16 : Vec Ideal S8192x512 .f32) (ix2 t j)
    = ∑ s : Fin 8192, ((Real.cos (((t.val * s.val : ℕ) : ℝ) * (2 * Real.pi / 8192)) : ℝ) : EReal) * (val_main_v144 x0 x1 x2 x3 x4 x5 x6 x7 x8 x9 x10 x11 x12 x13 x14 x15 x16 : Vec Ideal S8192x512 .f32) (ix2 s j) := by
  unfold val_main_v160
  simp only [← table_first]
  generalize val_main_v144 x0 x1 x2 x3 x4 x5 x6 x7 x8 x9 x10 x11 x12 x13 x14 x15 x16 = y
  generalize (val_main_v159 (F := Ideal)) = z
  pointwise [dot_S8192x8192_S8192x512_S8192x512_1_0_0_1_n_n]

/-- The mixed rows of the lowest band. -/
theorem ref_low (t : Fin 2048) (j : Fin 512) : (val_main_v170 x0 x1 x2 x3 x4 x5 x6 x7 x8 x9 x10 x11 x12 x13 x14 x15 x16 x17 x18 x19 x20 : Vec Ideal S2048x512 .f32) (ix2 t j)
    = mix (fun i => (val_main_v160 x0 x1 x2 x3 x4 x5 x6 x7 x8 x9 x10 x11 x12 x13 x14 x15 x16 : Vec Ideal S8192x512 .f32) (ix2 ⟨0 + t.val, by omega⟩ i)) (fun k c => x17 (ix2 k c)) (fun c => x18 (ix1 c))
        (fun k c => x19 (ix2 k c)) (fun c => x20 (ix1 c)) j := by
  unfold val_main_v170 val_main_v169 val_main_v168 val_main_v167 val_main_v166 val_main_v165 val_main_v164 val_main_v163 val_main_v162 val_main_v161
  generalize val_main_v160 x0 x1 x2 x3 x4 x5 x6 x7 x8 x9 x10 x11 x12 x13 x14 x15 x16 = y
  pointwise [dot_S2048x512_S512x512_S2048x512_1_0_0_1_n_n, mix, affine, val_main_call0_v0, val_main_call0_cst]

/-- The mixed rows of the middle band. -/
theorem ref_mid (t : Fin 4096) (j : Fin 512) : (val_main_v180 x0 x1 x2 x3 x4 x5 x6 x7 x8 x9 x10 x11 x12 x13 x14 x15 x16 x17 x18 x19 x20 : Vec Ideal S4096x512 .f32) (ix2 t j)
    = mix (fun i => (val_main_v160 x0 x1 x2 x3 x4 x5 x6 x7 x8 x9 x10 x11 x12 x13 x14 x15 x16 : Vec Ideal S8192x512 .f32) (ix2 ⟨2048 + t.val, by omega⟩ i)) (fun k c => x17 (ix2 k c)) (fun c => x18 (ix1 c))
        (fun k c => x19 (ix2 k c)) (fun c => x20 (ix1 c)) j := by
  unfold val_main_v180 val_main_v179 val_main_v178 val_main_v177 val_main_v176 val_main_v175 val_main_v174 val_main_v173 val_main_v172 val_main_v171
  generalize val_main_v160 x0 x1 x2 x3 x4 x5 x6 x7 x8 x9 x10 x11 x12 x13 x14 x15 x16 = y
  pointwise [dot_S4096x512_S512x512_S4096x512_1_0_0_1_n_n, mix, affine, val_main_call1_v0, val_main_call1_cst]

/-- The mixed rows of the highest band. -/
theorem ref_high (t : Fin 2048) (j : Fin 512) : (val_main_v190 x0 x1 x2 x3 x4 x5 x6 x7 x8 x9 x10 x11 x12 x13 x14 x15 x16 x17 x18 x19 x20 : Vec Ideal S2048x512 .f32) (ix2 t j)
    = mix (fun i => (val_main_v160 x0 x1 x2 x3 x4 x5 x6 x7 x8 x9 x10 x11 x12 x13 x14 x15 x16 : Vec Ideal S8192x512 .f32) (ix2 ⟨6144 + t.val, by omega⟩ i)) (fun k c => x17 (ix2 k c)) (fun c => x18 (ix1 c))
        (fun k c => x19 (ix2 k c)) (fun c => x20 (ix1 c)) j := by
  unfold val_main_v190 val_main_v189 val_main_v188 val_main_v187 val_main_v186 val_main_v185 val_main_v184 val_main_v183 val_main_v182 val_main_v181
  generalize val_main_v160 x0 x1 x2 x3 x4 x5 x6 x7 x8 x9 x10 x11 x12 x13 x14 x15 x16 = y
  pointwise [dot_S2048x512_S512x512_S2048x512_1_0_0_1_n_n, mix, affine, val_main_call2_v0, val_main_call2_cst]

/-- The mixed rows: the same map for each of the three bands. -/
theorem ref_mixed (t : Fin 8192) (j : Fin 512) : (val_main_v191 x0 x1 x2 x3 x4 x5 x6 x7 x8 x9 x10 x11 x12 x13 x14 x15 x16 x17 x18 x19 x20 : Vec Ideal S8192x512 .f32) (ix2 t j)
    = mix (fun i => (val_main_v160 x0 x1 x2 x3 x4 x5 x6 x7 x8 x9 x10 x11 x12 x13 x14 x15 x16 : Vec Ideal S8192x512 .f32) (ix2 t i)) (fun k c => x17 (ix2 k c)) (fun c => x18 (ix1 c))
        (fun k c => x19 (ix2 k c)) (fun c => x20 (ix1 c)) j := by
  have h0 := ref_low x0 x1 x2 x3 x4 x5 x6 x7 x8 x9 x10 x11 x12 x13 x14 x15 x16 x17 x18 x19 x20
  have h1 := ref_mid x0 x1 x2 x3 x4 x5 x6 x7 x8 x9 x10 x11 x12 x13 x14 x15 x16 x17 x18 x19 x20
  have h2 := ref_high x0 x1 x2 x3 x4 x5 x6 x7 x8 x9 x10 x11 x12 x13 x14 x15 x16 x17 x18 x19 x20
  unfold val_main_v191
  revert h0 h1 h2
  generalize val_main_v170 x0 x1 x2 x3 x4 x5 x6 x7 x8 x9 x10 x11 x12 x13 x14 x15 x16 x17 x18 x19 x20 = y0
  generalize val_main_v180 x0 x1 x2 x3 x4 x5 x6 x7 x8 x9 x10 x11 x12 x13 x14 x15 x16 x17 x18 x19 x20 = y1
  generalize val_main_v190 x0 x1 x2 x3 x4 x5 x6 x7 x8 x9 x10 x11 x12 x13 x14 x15 x16 x17 x18 x19 x20 = y2
  generalize val_main_v160 x0 x1 x2 x3 x4 x5 x6 x7 x8 x9 x10 x11 x12 x13 x14 x15 x16 = y
  intro h0 h1 h2
  pointwise []
  split_ifs
  all_goals first
    | contradiction
    | exact (h0 ⟨t.val, by assumption⟩ j).trans (by rw [show ∀ h, (⟨0 + t.val, h⟩ : Fin 8192) = t from fun h => Fin.ext (Nat.zero_add _)])
    | exact (h1 ⟨t.val - 2048, by assumption⟩ j).trans (by rw [show ∀ h, (⟨2048 + (t.val - 2048), h⟩ : Fin 8192) = t from fun h => Fin.ext (by dsimp only; omega)])
    | exact (h2 ⟨t.val - 2048 - 4096, by omega⟩ j).trans (by rw [show ∀ h, (⟨6144 + (t.val - 2048 - 4096), h⟩ : Fin 8192) = t from fun h => Fin.ext (by dsimp only; omega)])

/-- The gated features. -/
theorem ref_gate (t : Fin 8192) (j : Fin 512) : (val_main_v217 x0 x1 x2 x3 x4 x5 x6 x7 x8 x9 x10 x11 x12 x13 x14 x15 x16 x17 x18 x19 x20 : Vec Ideal S8192x512 .f32) (ix2 t j)
    = (val_main_v144 x0 x1 x2 x3 x4 x5 x6 x7 x8 x9 x10 x11 x12 x13 x14 x15 x16 : Vec Ideal S8192x512 .f32) (ix2 t j) + (val_main_v144 x0 x1 x2 x3 x4 x5 x6 x7 x8 x9 x10 x11 x12 x13 x14 x15 x16 : Vec Ideal S8192x512 .f32) (ix2 t j)
        * Ideal.div 1 (1 + Ideal.exp (-(Ideal.div (∑ s : Fin 8192, ((Real.cos (((t.val * s.val : ℕ) : ℝ) * (2 * Real.pi / 8192)) : ℝ) : EReal)
          * (val_main_v191 x0 x1 x2 x3 x4 x5 x6 x7 x8 x9 x10 x11 x12 x13 x14 x15 x16 x17 x18 x19 x20 : Vec Ideal S8192x512 .f32) (ix2 s j)) (Ideal.ofBits .f32 0x46000000#32)))) := by
  unfold val_main_v217 val_main_v216 val_main_v215 val_main_v214 val_main_v213 val_main_v212 val_main_v211 val_main_v210 val_main_v209 val_main_v208 val_main_v207
  simp only [← table_second]
  generalize val_main_v144 x0 x1 x2 x3 x4 x5 x6 x7 x8 x9 x10 x11 x12 x13 x14 x15 x16 = y
  generalize val_main_v191 x0 x1 x2 x3 x4 x5 x6 x7 x8 x9 x10 x11 x12 x13 x14 x15 x16 x17 x18 x19 x20 = w
  generalize (val_main_v206 (F := Ideal)) = z
  pointwise [dot_S8192x8192_S8192x512_S8192x512_1_0_0_1_n_n, val_main_cst_42, val_main_cst_43, val_main_cst_44]

end Cert.Value

end
-- ==== Proof.Final.lean ====
/-
  The kernel's result array is the reference's: both, entry by entry, are the fused features gated by the plain cosine
  sums, over the reals.
-/
module

public import proofs.«01_k».proof.Proof.Bridge
public import proofs.«01_k».proof.Proof.Given
public import proofs.«01_k».proof.Proof.RefFront
public import proofs.«01_k».proof.Proof.RefTail

@[expose] public section

set_option maxRecDepth 16384

noncomputable section

open Idealize.ShloMosaic Idealize.SL.Sem
open Cert.ReferenceIdeal Cert.ReferenceIdeal.Gen Cert.ReferenceIdeal.Read

namespace Cert.Value

section
variable {x0 : Vec Ideal S8192x3 .f32}
  {x1 : Vec Ideal S8192x256 .f32}
  {x2 : Vec Ideal S2048x3 .f32}
  {x3 : Vec Ideal S2048x512 .f32}
  {x4 : Vec Ideal S512x3 .f32}
  {x5 : Vec Ideal S512x1024 .f32}
  {x6 : Vec Ideal S8192x3 .f32}
  {x7 : Vec Ideal S256x512 .f32}
  {x8 : Vec Ideal S512 .f32}
  {x9 : Vec Ideal S512x512 .f32}
  {x10 : Vec Ideal S512 .f32}
  {x11 : Vec Ideal S1024x512 .f32}
  {x12 : Vec Ideal S512 .f32}
  {x13 : Vec Ideal S1536x512 .f32}
  {x14 : Vec Ideal S512 .f32}
  {x15 : Vec Ideal S512x512 .f32}
  {x16 : Vec Ideal S512 .f32}
  {x17 : Vec Ideal S512x512 .f32}
  {x18 : Vec Ideal S512 .f32}
  {x19 : Vec Ideal S512x512 .f32}
  {x20 : Vec Ideal S512 .f32}
  (given : Given x0 x1 x2 x3 x4 x5 x6 x7 x8 x9 x10 x11 x12 x13 x14 x15 x16 x17 x18 x19 x20)
include given in
/-- The reference's fused features are the kernel's. -/
theorem features_read (r : Fin 8192) (j : Fin 512) :
    (val_main_v144 x0 x1 x2 x3 x4 x5 x6 x7 x8 x9 x10 x11 x12 x13 x14 x15 x16 : Vec Ideal S8192x512 .f32) (ix2 r j) = features x0 x1 x2 x3 x4 x5 x6 x7 x8 x9 x10 x11 x12 x13 x14 x15 x16 r j := by
  rw [ref_fused]
  unfold features
  have e0 := set1_blend x0 x1 x6 x7 x8 r (given.strict1 r) given.real0 given.real6 given.real1
  have e1 := set2_blend x2 x3 x6 x9 x10 r (given.strict2 r) given.real2 given.real6 given.real3
  have e2 := set3_blend x4 x5 x6 x11 x12 r (given.strict3 r) given.real4 given.real6 given.real5
  rw [funext e0, funext e1, funext e2]

include given in
/-- The fused features are real numbers. -/
theorem features_real (r : Fin 8192) (j : Fin 512) : Real' (features x0 x1 x2 x3 x4 x5 x6 x7 x8 x9 x10 x11 x12 x13 x14 x15 x16 r j) := by
  unfold features
  exact Real'.fuse
    (blend_read_real _ x0 x6 r x1 _ _ (given.strict1 r) given.real0 given.real6 given.real1 (fun _ _ => given.real7 _) fun _ => given.real8 _)
    (blend_read_real _ x2 x6 r x3 _ _ (given.strict2 r) given.real2 given.real6 given.real3 (fun _ _ => given.real9 _) fun _ => given.real10 _)
    (blend_read_real _ x4 x6 r x5 _ _ (given.strict3 r) given.real4 given.real6 given.real5 (fun _ _ => given.real11 _) fun _ => given.real12 _)
    (fun _ _ => given.real13 _) (fun _ => given.real14 _) (fun _ _ => given.real15 _) (fun _ => given.real16 _) j

include given in
/-- The reference's result: the gate over the plain cosine sums of the features. -/
theorem reference_at (t : Fin 8192) (j : Fin 512) : (val_main_v217 x0 x1 x2 x3 x4 x5 x6 x7 x8 x9 x10 x11 x12 x13 x14 x15 x16 x17 x18 x19 x20 : Vec Ideal S8192x512 .f32) (ix2 t j)
    = features x0 x1 x2 x3 x4 x5 x6 x7 x8 x9 x10 x11 x12 x13 x14 x15 x16 t j + features x0 x1 x2 x3 x4 x5 x6 x7 x8 x9 x10 x11 x12 x13 x14 x15 x16 t j
      * Ideal.div 1 (1 + Ideal.exp (-(Ideal.div (∑ s : Fin 8192, ((Real.cos (((t.val * s.val : ℕ) : ℝ) * (2 * Real.pi / 8192)) : ℝ) : EReal)
        * mix (fun i => ∑ u : Fin 8192, ((Real.cos (((s.val * u.val : ℕ) : ℝ) * (2 * Real.pi / 8192)) : ℝ) : EReal) * features x0 x1 x2 x3 x4 x5 x6 x7 x8 x9 x10 x11 x12 x13 x14 x15 x16 u i)
            (fun k c => x17 (ix2 k c)) (fun c => x18 (ix1 c)) (fun k c => x19 (ix2 k c)) (fun c => x20 (ix1 c)) j)
          (Ideal.ofBits .f32 0x46000000#32)))) := by
  rw [ref_gate]
  simp only [ref_mixed, ref_spectrum, features_read given]

include given in
/-- The gate through the two-stage transforms is the reference's result. -/
theorem gated_reference (a : Fin 64) (r : Fin 128) (j : Fin 512) :
    gatedAt (fun a r j => features x0 x1 x2 x3 x4 x5 x6 x7 x8 x9 x10 x11 x12 x13 x14 x15 x16 (rowAt a r) j) (fun k c => x17 (ix2 k c)) (fun k c => x19 (ix2 k c))
      (fun c => x18 (ix1 c)) (fun c => x20 (ix1 c)) a r j
    = (val_main_v217 x0 x1 x2 x3 x4 x5 x6 x7 x8 x9 x10 x11 x12 x13 x14 x15 x16 x17 x18 x19 x20 : Vec Ideal S8192x512 .f32) (ix2 (rowAt a r) j) :=
  (gated_plain (features x0 x1 x2 x3 x4 x5 x6 x7 x8 x9 x10 x11 x12 x13 x14 x15 x16) _ _ _ _ (features_real given) (fun i j => given.real17 _) (fun j => given.real18 _)
    (fun i j => given.real19 _) (fun j => given.real20 _) a r j).trans (reference_at given (rowAt a r) j).symm
end

end Cert.Value

end
-- ==== Proof.Result.lean ====
/-
  The kernel's result, as an array, on every device whose arguments the precondition admits.
-/
module

public import proofs.«01_k».proof.Proof.Final

@[expose] public section

set_option maxRecDepth 16384

noncomputable section

open Idealize.ShloMosaic Idealize.SL.Sem
open Cert.KernelIdeal Cert.KernelIdeal.Gen

namespace Cert.Value

variable (m : (ℓ : Loc nD τ sig) → Buf (Elt Ideal) ℓ) (ρ : Dev nD → PrngReg) (c : Dev nD)

/-- The kernel's result array is the reference's array of the same arguments. -/
theorem result_array (given : Given (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) :
    (W9 m ρ c (Proc.devRef .tc main_v61) : Vec Ideal S8192x512 .f32)
      = (Cert.ReferenceIdeal.Read.val_main_v217 (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20) : Vec Ideal S8192x512 .f32) := by
  funext y
  have e : y = ix2 (rowAt (groupOf (y 0)) (placeOf (y 0))) (y 1) := by
    have h : rowAt (groupOf (y 0)) (placeOf (y 0)) = y 0 :=
      Fin.ext (show (y 0).val / 128 * 128 + (y 0).val % 128 = (y 0).val by omega)
    rw [h]
    exact eq_ix2 y
  rw [e]
  exact (result_at m ρ c _ _ _).trans (gated_reference given _ _ _)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_distinct_nearest
public import proofs.«01_k».proof.Proof.KernelRun
public import proofs.«01_k».proof.Proof.Result
public import Idealize.ShloMosaic.Adequacy
public import Idealize.ShloMosaic.Init

@[expose] public section

noncomputable section

namespace Cert.Proof

open Idealize.ShloMosaic Idealize.SL.Sem

/-- The reference runs, keeps its arguments, and has no semaphore to leave nonzero. -/
theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's result, as the array of its arguments. -/
theorem reference_ends (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v217)
          = Cert.ReferenceIdeal.Read.val_main_v217 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)) :=
  (θ_run Cert.ReferenceIdeal.defs _ _).mono
    (fun _ h c => ⟨(h c).1.trans (Cert.ReferenceIdeal.Read.val_main_v217_eq (StableHlo.launchContents m' c)), (h c).2⟩)
    (Cert.ReferenceIdeal.Value.run (F := Ideal) m' g')

/-- The kernel and the reference end with equal results, on arguments that the precondition admits. -/
theorem same_values [Cert.Pre_distinct_nearest.Facts] : Cert.algebraic_KernelIdeal_ReferenceIdeal_pre_distinct_nearest := by
  intro m g m' g' hpre hagree
  refine ⟨fun c => Cert.KernelIdeal.Gen.W9 m g c (Proc.devRef .tc Cert.KernelIdeal.main_v61), Cert.Value.kernel_ends m g, ?_⟩
  refine (θ_run Cert.ReferenceIdeal.defs _ _).mono (fun r h c => ⟨(h c).1.trans ?_, (h c).2⟩) (reference_ends m' g')
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]
  exact (Cert.Value.result_array m g c (Cert.Value.given_of_pre _ _ _ _ _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_distinct_nearest.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "far" .f32 0x7149F2CA#32 ⊤ rfl,
  @same_values Cert.Pre_distinct_nearest.Gen.facts⟩

end Cert.Proof

end
